-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.bf16_pair.BufferStatement Cert.KernelIdeal.S88x8x2x256 Cert.KernelIdeal.S88x8x1x256
  ∧ IdealRules.truncf_extf.Statement Cert.KernelIdeal.S8x256 .f32 .bf16
  ∧ IdealRules.bf16_pair.Statement Cert.KernelIdeal.S16x128 Cert.KernelIdeal.S8x128
  ∧ IdealRules.bf16_pair.Statement Cert.KernelIdeal.S1x8x2x128 Cert.KernelIdeal.S1x8x1x128
  ∧ IdealRules.bf16_pair.PackStatement Cert.KernelIdeal.S8x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x256x5632 : Shape := ⟨3, ![4, 256, 5632]⟩
abbrev S2816x1280 : Shape := ⟨2, ![2816, 1280]⟩
abbrev S88x1280 : Shape := ⟨2, ![88, 1280]⟩
abbrev S11x1280 : Shape := ⟨2, ![11, 1280]⟩
abbrev S1280 : Shape := ⟨1, ![1280]⟩
abbrev S5632x16 : Shape := ⟨2, ![5632, 16]⟩
abbrev S16x1280 : Shape := ⟨2, ![16, 1280]⟩
abbrev S1024x5632 : Shape := ⟨2, ![1024, 5632]⟩
abbrev S1x1280 : Shape := ⟨2, ![1, 1280]⟩
abbrev S1024x1280 : Shape := ⟨2, ![1024, 1280]⟩
abbrev S2816x256 : Shape := ⟨2, ![2816, 256]⟩
abbrev S88x256 : Shape := ⟨2, ![88, 256]⟩
abbrev S11x256 : Shape := ⟨2, ![11, 256]⟩
abbrev S1x256 : Shape := ⟨2, ![1, 256]⟩
abbrev S16x256 : Shape := ⟨2, ![16, 256]⟩
abbrev S1024x256 : Shape := ⟨2, ![1024, 256]⟩
abbrev S5632x256 : Shape := ⟨2, ![5632, 256]⟩
abbrev S88x8x256 : Shape := ⟨3, ![88, 8, 256]⟩
abbrev S16x128 : Shape := ⟨2, ![16, 128]⟩
abbrev S1024x16 : Shape := ⟨2, ![1024, 16]⟩
abbrev S8x256 : Shape := ⟨2, ![8, 256]⟩
abbrev S1x128 : Shape := ⟨2, ![1, 128]⟩
abbrev S8x128 : Shape := ⟨2, ![8, 128]⟩
abbrev S1x8x128 : Shape := ⟨3, ![1, 8, 128]⟩
abbrev S32x128 : Shape := ⟨2, ![32, 128]⟩
abbrev S8x128x1 : Shape := ⟨3, ![8, 128, 1]⟩

abbrev nBuf : Space → Nat
  | .hbm => 10
  | .vmem => 18
  | .smem => 0
  | _ => 0

abbrev bufTy : (tb : Table) → Fin (tcTables nBuf tb) → BufTy
  | .hbm, ⟨0, _⟩ => ⟨S4x256x5632, .bf16⟩
  | .hbm, ⟨1, _⟩ => ⟨S2816x1280, .i8⟩
  | .hbm, ⟨2, _⟩ => ⟨S88x1280, .i8⟩
  | .hbm, ⟨3, _⟩ => ⟨S11x1280, .f32⟩
  | .hbm, ⟨4, _⟩ => ⟨S1280, .f32⟩
  | .hbm, ⟨5, _⟩ => ⟨S5632x16, .bf16⟩
  | .hbm, ⟨6, _⟩ => ⟨S16x1280, .bf16⟩
  | .hbm, ⟨7, _⟩ => ⟨S1024x5632, .bf16⟩
  | .hbm, ⟨8, _⟩ => ⟨S1x1280, .f32⟩
  | .hbm, ⟨9, _⟩ => ⟨S1024x1280, .bf16⟩
  | .local _ .vmem, ⟨0, _⟩ => ⟨S1024x5632, .bf16⟩
  | .local _ .vmem, ⟨1, _⟩ => ⟨S2816x256, .i8⟩
  | .local _ .vmem, ⟨2, _⟩ => ⟨S2816x256, .i8⟩
  | .local _ .vmem, ⟨3, _⟩ => ⟨S88x256, .i8⟩
  | .local _ .vmem, ⟨4, _⟩ => ⟨S88x256, .i8⟩
  | .local _ .vmem, ⟨5, _⟩ => ⟨S11x256, .f32⟩
  | .local _ .vmem, ⟨6, _⟩ => ⟨S11x256, .f32⟩
  | .local _ .vmem, ⟨7, _⟩ => ⟨S1x256, .f32⟩
  | .local _ .vmem, ⟨8, _⟩ => ⟨S1x256, .f32⟩
  | .local _ .vmem, ⟨9, _⟩ => ⟨S5632x16, .bf16⟩
  | .local _ .vmem, ⟨10, _⟩ => ⟨S16x256, .bf16⟩
  | .local _ .vmem, ⟨11, _⟩ => ⟨S16x256, .bf16⟩
  | .local _ .vmem, ⟨12, _⟩ => ⟨S1024x256, .bf16⟩
  | .local _ .vmem, ⟨13, _⟩ => ⟨S1024x256, .bf16⟩
  | .local _ .vmem, ⟨14, _⟩ => ⟨S5632x256, .bf16⟩
  | .local _ .vmem, ⟨15, _⟩ => ⟨S88x8x256, .i32⟩
  | .local _ .vmem, ⟨16, _⟩ => ⟨S16x128, .bf16⟩
  | .local _ .vmem, ⟨17, _⟩ => ⟨S1024x16, .bf16⟩
  | _, _ => ⟨S4x256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [BitOps F]

abbrev grid0 : Pipeline.Grid := ⟨1, ![5], ![false]⟩

@[reducible] def k0_t1_loop : Scf.Loop 32 :=
  let c0_i32_858 : BitVec 32 := 0#32
  let c88_i32 : BitVec 32 := 88#32
  let v1884 : BitVec 32 := Scalar.addi c0_i32_858 c88_i32
  let c1_i32 : BitVec 32 := 1#32
  ⟨c0_i32_858, v1884, c1_i32⟩
def k0_off1 (k0_t1 : Fin k0_t1_loop.trips) : Fin 3 → Nat :=
  let c0_i32_858 : BitVec 32 := 0#32
  let c1_i32 : BitVec 32 := 1#32
  let arg13 : BitVec 32 := Scf.iv c0_i32_858 c1_i32 k0_t1
  let v1897 : Index := Scalar.indexCast arg13
  let c0_872 : Index := 0#32
  let c0_873 : Index := 0#32
  ![v1897.toNat, 0, 0]
def k0_mult1 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c32_i32 : BitVec 32 := 32#32
  let v1900 : BitVec 32 := Scalar.muli arg13 c32_i32
  v1900
def k0_off2 (k0_t1 : Fin k0_t1_loop.trips) : Fin 2 → Nat :=
  let c0_i32_858 : BitVec 32 := 0#32
  let c1_i32 : BitVec 32 := 1#32
  let arg13 : BitVec 32 := Scf.iv c0_i32_858 c1_i32 k0_t1
  let c32_i32 : BitVec 32 := 32#32
  let v1900 : BitVec 32 := Scalar.muli arg13 c32_i32
  let v1901 : BitVec 32 := v1900
  let v1902 : Index := Scalar.indexCast v1901
  let c0_874 : Index := 0#32
  ![v1902.toNat, 0]
def k0_mult2 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32 : BitVec 32 := 64#32
  let v1978 : BitVec 32 := Scalar.muli arg13 c64_i32
  let c0_i32_891 : BitVec 32 := 0#32
  let v1979 : BitVec 32 := Scalar.addi v1978 c0_i32_891
  v1979
def k0_off3 (k0_t1 : Fin k0_t1_loop.trips) (c0_i32_891 : BitVec 32) : Fin 2 → Nat :=
  let c0_i32_858 : BitVec 32 := 0#32
  let c1_i32 : BitVec 32 := 1#32
  let arg13 : BitVec 32 := Scf.iv c0_i32_858 c1_i32 k0_t1
  let c64_i32 : BitVec 32 := 64#32
  let v1978 : BitVec 32 := Scalar.muli arg13 c64_i32
  let v1979 : BitVec 32 := Scalar.addi v1978 c0_i32_891
  let v1980 : BitVec 32 := v1979
  let v1981 : Index := Scalar.indexCast v1980
  let c0_892 : Index := 0#32
  ![v1981.toNat, 0]
def k0_mult3 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_916 : BitVec 32 := 64#32
  let v2058 : BitVec 32 := Scalar.muli arg13 c64_i32_916
  let c16_i32_917 : BitVec 32 := 16#32
  let v2059 : BitVec 32 := Scalar.addi v2058 c16_i32_917
  v2059
def k0_mult4 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_942 : BitVec 32 := 64#32
  let v2138 : BitVec 32 := Scalar.muli arg13 c64_i32_942
  let c32_i32_943 : BitVec 32 := 32#32
  let v2139 : BitVec 32 := Scalar.addi v2138 c32_i32_943
  v2139
def k0_mult5 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_968 : BitVec 32 := 64#32
  let v2218 : BitVec 32 := Scalar.muli arg13 c64_i32_968
  let c48_i32 : BitVec 32 := 48#32
  let v2219 : BitVec 32 := Scalar.addi v2218 c48_i32
  v2219
def k0_off4 (k0_t1 : Fin k0_t1_loop.trips) : Fin 3 → Nat :=
  let c0_i32_858 : BitVec 32 := 0#32
  let c1_i32 : BitVec 32 := 1#32
  let arg13 : BitVec 32 := Scf.iv c0_i32_858 c1_i32 k0_t1
  let v2225 : Index := Scalar.indexCast arg13
  let c0_970 : Index := 0#32
  let c128_971 : Index := 128#32
  ![v2225.toNat, 0, 128]
def k0_mult6 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c32_i32_972 : BitVec 32 := 32#32
  let v2228 : BitVec 32 := Scalar.muli arg13 c32_i32_972
  v2228
def k0_off5 (k0_t1 : Fin k0_t1_loop.trips) : Fin 2 → Nat :=
  let c0_i32_858 : BitVec 32 := 0#32
  let c1_i32 : BitVec 32 := 1#32
  let arg13 : BitVec 32 := Scf.iv c0_i32_858 c1_i32 k0_t1
  let c32_i32_972 : BitVec 32 := 32#32
  let v2228 : BitVec 32 := Scalar.muli arg13 c32_i32_972
  let v2229 : BitVec 32 := v2228
  let v2230 : Index := Scalar.indexCast v2229
  let c128_973 : Index := 128#32
  ![v2230.toNat, 128]
def k0_mult7 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_997 : BitVec 32 := 64#32
  let v2306 : BitVec 32 := Scalar.muli arg13 c64_i32_997
  let c0_i32_998 : BitVec 32 := 0#32
  let v2307 : BitVec 32 := Scalar.addi v2306 c0_i32_998
  v2307
def k0_off6 (k0_t1 : Fin k0_t1_loop.trips) (c0_i32_998 : BitVec 32) : Fin 2 → Nat :=
  let c0_i32_858 : BitVec 32 := 0#32
  let c1_i32 : BitVec 32 := 1#32
  let arg13 : BitVec 32 := Scf.iv c0_i32_858 c1_i32 k0_t1
  let c64_i32_997 : BitVec 32 := 64#32
  let v2306 : BitVec 32 := Scalar.muli arg13 c64_i32_997
  let v2307 : BitVec 32 := Scalar.addi v2306 c0_i32_998
  let v2308 : BitVec 32 := v2307
  let v2309 : Index := Scalar.indexCast v2308
  let c128_999 : Index := 128#32
  ![v2309.toNat, 128]
def k0_mult8 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_1023 : BitVec 32 := 64#32
  let v2386 : BitVec 32 := Scalar.muli arg13 c64_i32_1023
  let c16_i32_1024 : BitVec 32 := 16#32
  let v2387 : BitVec 32 := Scalar.addi v2386 c16_i32_1024
  v2387
def k0_mult9 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_1049 : BitVec 32 := 64#32
  let v2466 : BitVec 32 := Scalar.muli arg13 c64_i32_1049
  let c32_i32_1050 : BitVec 32 := 32#32
  let v2467 : BitVec 32 := Scalar.addi v2466 c32_i32_1050
  v2467
def k0_mult10 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_1075 : BitVec 32 := 64#32
  let v2546 : BitVec 32 := Scalar.muli arg13 c64_i32_1075
  let c48_i32_1076 : BitVec 32 := 48#32
  let v2547 : BitVec 32 := Scalar.addi v2546 c48_i32_1076
  v2547
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2816x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S11x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
abbrev S4x256x5632 : Shape := ⟨3, ![4, 256, 5632]⟩
abbrev S2816x1280 : Shape := ⟨2, ![2816, 1280]⟩
abbrev S88x1280 : Shape := ⟨2, ![88, 1280]⟩
abbrev S11x1280 : Shape := ⟨2, ![11, 1280]⟩
abbrev S1280 : Shape := ⟨1, ![1280]⟩
abbrev S5632x16 : Shape := ⟨2, ![5632, 16]⟩
abbrev S16x1280 : Shape := ⟨2, ![16, 1280]⟩
abbrev S1024x5632 : Shape := ⟨2, ![1024, 5632]⟩
abbrev S1x1280 : Shape := ⟨2, ![1, 1280]⟩
abbrev S1024x1280 : Shape := ⟨2, ![1024, 1280]⟩
abbrev S2816x256 : Shape := ⟨2, ![2816, 256]⟩
abbrev S88x256 : Shape := ⟨2, ![88, 256]⟩
abbrev S11x256 : Shape := ⟨2, ![11, 256]⟩
abbrev S1x256 : Shape := ⟨2, ![1, 256]⟩
abbrev S16x256 : Shape := ⟨2, ![16, 256]⟩
abbrev S1024x256 : Shape := ⟨2, ![1024, 256]⟩
abbrev S5632x256 : Shape := ⟨2, ![5632, 256]⟩
abbrev S88x8x256 : Shape := ⟨3, ![88, 8, 256]⟩
abbrev S88x8x2x256 : Shape := ⟨4, ![88, 8, 2, 256]⟩
abbrev S88x8x1x256 : Shape := ⟨4, ![88, 8, 1, 256]⟩
abbrev S16x128 : Shape := ⟨2, ![16, 128]⟩
abbrev S1024x16 : Shape := ⟨2, ![1024, 16]⟩
abbrev S8x256 : Shape := ⟨2, ![8, 256]⟩
abbrev S1x128 : Shape := ⟨2, ![1, 128]⟩
abbrev S8x128 : Shape := ⟨2, ![8, 128]⟩
abbrev S1x8x128 : Shape := ⟨3, ![1, 8, 128]⟩
abbrev S1x8x2x128 : Shape := ⟨4, ![1, 8, 2, 128]⟩
abbrev S1x8x1x128 : Shape := ⟨4, ![1, 8, 1, 128]⟩
abbrev S32x128 : Shape := ⟨2, ![32, 128]⟩
abbrev S8x128x1 : Shape := ⟨3, ![8, 128, 1]⟩

abbrev nBuf : Space → Nat
  | .hbm => 10
  | .vmem => 18
  | .smem => 0
  | _ => 0

abbrev bufTy : (tb : Table) → Fin (tcTables nBuf tb) → BufTy
  | .hbm, ⟨0, _⟩ => ⟨S4x256x5632, .bf16⟩
  | .hbm, ⟨1, _⟩ => ⟨S2816x1280, .i8⟩
  | .hbm, ⟨2, _⟩ => ⟨S88x1280, .i8⟩
  | .hbm, ⟨3, _⟩ => ⟨S11x1280, .f32⟩
  | .hbm, ⟨4, _⟩ => ⟨S1280, .f32⟩
  | .hbm, ⟨5, _⟩ => ⟨S5632x16, .bf16⟩
  | .hbm, ⟨6, _⟩ => ⟨S16x1280, .bf16⟩
  | .hbm, ⟨7, _⟩ => ⟨S1024x5632, .bf16⟩
  | .hbm, ⟨8, _⟩ => ⟨S1x1280, .f32⟩
  | .hbm, ⟨9, _⟩ => ⟨S1024x1280, .bf16⟩
  | .local _ .vmem, ⟨0, _⟩ => ⟨S1024x5632, .bf16⟩
  | .local _ .vmem, ⟨1, _⟩ => ⟨S2816x256, .i8⟩
  | .local _ .vmem, ⟨2, _⟩ => ⟨S2816x256, .i8⟩
  | .local _ .vmem, ⟨3, _⟩ => ⟨S88x256, .i8⟩
  | .local _ .vmem, ⟨4, _⟩ => ⟨S88x256, .i8⟩
  | .local _ .vmem, ⟨5, _⟩ => ⟨S11x256, .f32⟩
  | .local _ .vmem, ⟨6, _⟩ => ⟨S11x256, .f32⟩
  | .local _ .vmem, ⟨7, _⟩ => ⟨S1x256, .f32⟩
  | .local _ .vmem, ⟨8, _⟩ => ⟨S1x256, .f32⟩
  | .local _ .vmem, ⟨9, _⟩ => ⟨S5632x16, .bf16⟩
  | .local _ .vmem, ⟨10, _⟩ => ⟨S16x256, .bf16⟩
  | .local _ .vmem, ⟨11, _⟩ => ⟨S16x256, .bf16⟩
  | .local _ .vmem, ⟨12, _⟩ => ⟨S1024x256, .bf16⟩
  | .local _ .vmem, ⟨13, _⟩ => ⟨S1024x256, .bf16⟩
  | .local _ .vmem, ⟨14, _⟩ => ⟨S5632x256, .bf16⟩
  | .local _ .vmem, ⟨15, _⟩ => ⟨S88x8x2x256, .bf16⟩
  | .local _ .vmem, ⟨16, _⟩ => ⟨S16x128, .bf16⟩
  | .local _ .vmem, ⟨17, _⟩ => ⟨S1024x16, .bf16⟩
  | _, _ => ⟨S4x256x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![5], ![false]⟩

@[reducible] def k0_t1_loop : Scf.Loop 32 :=
  let c0_i32_858 : BitVec 32 := 0#32
  let c88_i32 : BitVec 32 := 88#32
  let v1884 : BitVec 32 := Scalar.addi c0_i32_858 c88_i32
  let c1_i32 : BitVec 32 := 1#32
  ⟨c0_i32_858, v1884, c1_i32⟩
def k0_off1 (k0_t1 : Fin k0_t1_loop.trips) : Fin 4 → Nat :=
  let c0_i32_858 : BitVec 32 := 0#32
  let c1_i32 : BitVec 32 := 1#32
  let arg13 : BitVec 32 := Scf.iv c0_i32_858 c1_i32 k0_t1
  let v1897 : Index := Scalar.indexCast arg13
  let c0_872 : Index := 0#32
  let c0_873 : Index := 0#32
  ![v1897.toNat, 0, 0, 0]
def k0_mult1 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c32_i32 : BitVec 32 := 32#32
  let v1900 : BitVec 32 := Scalar.muli arg13 c32_i32
  v1900
def k0_off2 (k0_t1 : Fin k0_t1_loop.trips) : Fin 2 → Nat :=
  let c0_i32_858 : BitVec 32 := 0#32
  let c1_i32 : BitVec 32 := 1#32
  let arg13 : BitVec 32 := Scf.iv c0_i32_858 c1_i32 k0_t1
  let c32_i32 : BitVec 32 := 32#32
  let v1900 : BitVec 32 := Scalar.muli arg13 c32_i32
  let v1901 : BitVec 32 := v1900
  let v1902 : Index := Scalar.indexCast v1901
  let c0_874 : Index := 0#32
  ![v1902.toNat, 0]
def k0_mult2 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32 : BitVec 32 := 64#32
  let v1978 : BitVec 32 := Scalar.muli arg13 c64_i32
  let c0_i32_891 : BitVec 32 := 0#32
  let v1979 : BitVec 32 := Scalar.addi v1978 c0_i32_891
  v1979
def k0_off3 (k0_t1 : Fin k0_t1_loop.trips) (c0_i32_891 : BitVec 32) : Fin 2 → Nat :=
  let c0_i32_858 : BitVec 32 := 0#32
  let c1_i32 : BitVec 32 := 1#32
  let arg13 : BitVec 32 := Scf.iv c0_i32_858 c1_i32 k0_t1
  let c64_i32 : BitVec 32 := 64#32
  let v1978 : BitVec 32 := Scalar.muli arg13 c64_i32
  let v1979 : BitVec 32 := Scalar.addi v1978 c0_i32_891
  let v1980 : BitVec 32 := v1979
  let v1981 : Index := Scalar.indexCast v1980
  let c0_892 : Index := 0#32
  ![v1981.toNat, 0]
def k0_mult3 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_916 : BitVec 32 := 64#32
  let v2058 : BitVec 32 := Scalar.muli arg13 c64_i32_916
  let c16_i32_917 : BitVec 32 := 16#32
  let v2059 : BitVec 32 := Scalar.addi v2058 c16_i32_917
  v2059
def k0_mult4 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_942 : BitVec 32 := 64#32
  let v2138 : BitVec 32 := Scalar.muli arg13 c64_i32_942
  let c32_i32_943 : BitVec 32 := 32#32
  let v2139 : BitVec 32 := Scalar.addi v2138 c32_i32_943
  v2139
def k0_mult5 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_968 : BitVec 32 := 64#32
  let v2218 : BitVec 32 := Scalar.muli arg13 c64_i32_968
  let c48_i32 : BitVec 32 := 48#32
  let v2219 : BitVec 32 := Scalar.addi v2218 c48_i32
  v2219
def k0_off4 (k0_t1 : Fin k0_t1_loop.trips) : Fin 4 → Nat :=
  let c0_i32_858 : BitVec 32 := 0#32
  let c1_i32 : BitVec 32 := 1#32
  let arg13 : BitVec 32 := Scf.iv c0_i32_858 c1_i32 k0_t1
  let v2225 : Index := Scalar.indexCast arg13
  let c0_970 : Index := 0#32
  let c128_971 : Index := 128#32
  ![v2225.toNat, 0, 0, 128]
def k0_mult6 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c32_i32_972 : BitVec 32 := 32#32
  let v2228 : BitVec 32 := Scalar.muli arg13 c32_i32_972
  v2228
def k0_off5 (k0_t1 : Fin k0_t1_loop.trips) : Fin 2 → Nat :=
  let c0_i32_858 : BitVec 32 := 0#32
  let c1_i32 : BitVec 32 := 1#32
  let arg13 : BitVec 32 := Scf.iv c0_i32_858 c1_i32 k0_t1
  let c32_i32_972 : BitVec 32 := 32#32
  let v2228 : BitVec 32 := Scalar.muli arg13 c32_i32_972
  let v2229 : BitVec 32 := v2228
  let v2230 : Index := Scalar.indexCast v2229
  let c128_973 : Index := 128#32
  ![v2230.toNat, 128]
def k0_mult7 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_997 : BitVec 32 := 64#32
  let v2306 : BitVec 32 := Scalar.muli arg13 c64_i32_997
  let c0_i32_998 : BitVec 32 := 0#32
  let v2307 : BitVec 32 := Scalar.addi v2306 c0_i32_998
  v2307
def k0_off6 (k0_t1 : Fin k0_t1_loop.trips) (c0_i32_998 : BitVec 32) : Fin 2 → Nat :=
  let c0_i32_858 : BitVec 32 := 0#32
  let c1_i32 : BitVec 32 := 1#32
  let arg13 : BitVec 32 := Scf.iv c0_i32_858 c1_i32 k0_t1
  let c64_i32_997 : BitVec 32 := 64#32
  let v2306 : BitVec 32 := Scalar.muli arg13 c64_i32_997
  let v2307 : BitVec 32 := Scalar.addi v2306 c0_i32_998
  let v2308 : BitVec 32 := v2307
  let v2309 : Index := Scalar.indexCast v2308
  let c128_999 : Index := 128#32
  ![v2309.toNat, 128]
def k0_mult8 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_1023 : BitVec 32 := 64#32
  let v2386 : BitVec 32 := Scalar.muli arg13 c64_i32_1023
  let c16_i32_1024 : BitVec 32 := 16#32
  let v2387 : BitVec 32 := Scalar.addi v2386 c16_i32_1024
  v2387
def k0_mult9 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_1049 : BitVec 32 := 64#32
  let v2466 : BitVec 32 := Scalar.muli arg13 c64_i32_1049
  let c32_i32_1050 : BitVec 32 := 32#32
  let v2467 : BitVec 32 := Scalar.addi v2466 c32_i32_1050
  v2467
def k0_mult10 (k0_t1 : Fin k0_t1_loop.trips) : BitVec 32 :=
  let c0_i32_858 : BitVec 32 := 0#32
  let c1_i32 : BitVec 32 := 1#32
  let arg13 : BitVec 32 := Scf.iv c0_i32_858 c1_i32 k0_t1
  let c64_i32_1075 : BitVec 32 := 64#32
  let v2546 : BitVec 32 := Scalar.muli arg13 c64_i32_1075
  let c48_i32_1076 : BitVec 32 := 48#32
  let v2547 : BitVec 32 := Scalar.addi v2546 c48_i32_1076
  v2547
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x5632 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2816x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S11x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S5632x16 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x256x5632 : Shape := ⟨3, ![4, 256, 5632]⟩
abbrev S2816x1280 : Shape := ⟨2, ![2816, 1280]⟩
abbrev S88x1280 : Shape := ⟨2, ![88, 1280]⟩
abbrev S11x1280 : Shape := ⟨2, ![11, 1280]⟩
abbrev S1280 : Shape := ⟨1, ![1280]⟩
abbrev S5632x16 : Shape := ⟨2, ![5632, 16]⟩
abbrev S16x1280 : Shape := ⟨2, ![16, 1280]⟩
abbrev S1024x5632 : Shape := ⟨2, ![1024, 5632]⟩
abbrev S11x8x1280 : Shape := ⟨3, ![11, 8, 1280]⟩
abbrev S1x1280 : Shape := ⟨2, ![1, 1280]⟩
abbrev S2816x2x1280 : Shape := ⟨3, ![2816, 2, 1280]⟩
abbrev S5632x1280 : Shape := ⟨2, ![5632, 1280]⟩
abbrev S5632x1 : Shape := ⟨2, ![5632, 1]⟩
abbrev S_ : Shape := ⟨0, ![]⟩
abbrev S88x64x1280 : Shape := ⟨3, ![88, 64, 1280]⟩
abbrev S88x1x1280 : Shape := ⟨3, ![88, 1, 1280]⟩
abbrev S1024x1280 : Shape := ⟨2, ![1024, 1280]⟩
abbrev S1024x16 : Shape := ⟨2, ![1024, 16]⟩

abbrev nBuf : Space → Nat
  | .hbm => 130
  | .vmem => 0
  | .smem => 0
  | _ => 0

abbrev hbmTy0_0 (i : Nat) : BufTy := match i % 128 with
  | 0 => ⟨S4x256x5632, .bf16⟩
  | 1 => ⟨S2816x1280, .i8⟩
  | 2 => ⟨S88x1280, .i8⟩
  | 3 => ⟨S11x1280, .f32⟩
  | 4 => ⟨S1280, .f32⟩
  | 5 => ⟨S5632x16, .bf16⟩
  | 6 => ⟨S16x1280, .bf16⟩
  | 7 => ⟨S1024x5632, .bf16⟩
  | 8 => ⟨S11x8x1280, .f32⟩
  | 9 => ⟨S88x1280, .f32⟩
  | 10 => ⟨S88x1280, .i32⟩
  | 11 => ⟨S88x1280, .f32⟩
  | 12 => ⟨S88x1280, .f32⟩
  | 13 => ⟨S1x1280, .f32⟩
  | 14 => ⟨S88x1280, .f32⟩
  | 15 => ⟨S88x1280, .f32⟩
  | 16 => ⟨S88x1280, .bf16⟩
  | 17 => ⟨S2816x1280, .i32⟩
  | 18 => ⟨S2816x2x1280, .i32⟩
  | 19 => ⟨S5632x1280, .i32⟩
  | 20 => ⟨S5632x1, .i32⟩
  | 21 => ⟨S_, .i32⟩
  | 22 => ⟨S5632x1, .i32⟩
  | 23 => ⟨S5632x1, .i32⟩
  | 24 => ⟨S_, .i32⟩
  | 25 => ⟨S5632x1, .i32⟩
  | 26 => ⟨S5632x1, .i32⟩
  | 27 => ⟨S5632x1280, .i32⟩
  | 28 => ⟨S5632x1280, .i32⟩
  | 29 => ⟨S_, .i32⟩
  | 30 => ⟨S5632x1280, .i32⟩
  | 31 => ⟨S5632x1280, .i32⟩
  | 32 => ⟨S_, .i32⟩
  | 33 => ⟨S5632x1280, .i32⟩
  | 34 => ⟨S5632x1280, .i32⟩
  | 35 => ⟨S_, .i32⟩
  | 36 => ⟨S5632x1280, .i32⟩
  | 37 => ⟨S5632x1280, .i32⟩
  | 38 => ⟨S_, .i32⟩
  | 39 => ⟨S5632x1280, .i32⟩
  | 40 => ⟨S5632x1280, .i1⟩
  | 41 => ⟨S_, .f32⟩
  | 42 => ⟨S_, .f32⟩
  | 43 => ⟨S5632x1280, .f32⟩
  | 44 => ⟨S5632x1280, .f32⟩
  | 45 => ⟨S5632x1280, .f32⟩
  | 46 => ⟨S_, .f32⟩
  | 47 => ⟨S_, .f32⟩
  | 48 => ⟨S5632x1280, .f32⟩
  | 49 => ⟨S5632x1280, .f32⟩
  | 50 => ⟨S5632x1280, .f32⟩
  | 51 => ⟨S_, .f32⟩
  | 52 => ⟨S_, .f32⟩
  | 53 => ⟨S5632x1280, .f32⟩
  | 54 => ⟨S5632x1280, .f32⟩
  | 55 => ⟨S5632x1280, .f32⟩
  | 56 => ⟨S_, .f32⟩
  | 57 => ⟨S_, .f32⟩
  | 58 => ⟨S5632x1280, .f32⟩
  | 59 => ⟨S5632x1280, .f32⟩
  | 60 => ⟨S5632x1280, .f32⟩
  | 61 => ⟨S_, .f32⟩
  | 62 => ⟨S_, .f32⟩
  | 63 => ⟨S5632x1280, .f32⟩
  | 64 => ⟨S5632x1280, .f32⟩
  | 65 => ⟨S5632x1280, .f32⟩
  | 66 => ⟨S_, .f32⟩
  | 67 => ⟨S_, .f32⟩
  | 68 => ⟨S5632x1280, .f32⟩
  | 69 => ⟨S5632x1280, .f32⟩
  | 70 => ⟨S5632x1280, .f32⟩
  | 71 => ⟨S_, .f32⟩
  | 72 => ⟨S_, .f32⟩
  | 73 => ⟨S5632x1280, .f32⟩
  | 74 => ⟨S5632x1280, .f32⟩
  | 75 => ⟨S5632x1280, .f32⟩
  | 76 => ⟨S_, .f32⟩
  | 77 => ⟨S_, .f32⟩
  | 78 => ⟨S5632x1280, .f32⟩
  | 79 => ⟨S5632x1280, .f32⟩
  | 80 => ⟨S5632x1280, .f32⟩
  | 81 => ⟨S_, .i32⟩
  | 82 => ⟨S5632x1280, .i32⟩
  | 83 => ⟨S5632x1280, .i32⟩
  | 84 => ⟨S_, .i32⟩
  | 85 => ⟨S5632x1280, .i32⟩
  | 86 => ⟨S5632x1280, .i32⟩
  | 87 => ⟨S_, .i32⟩
  | 88 => ⟨S5632x1280, .i32⟩
  | 89 => ⟨S5632x1280, .i1⟩
  | 90 => ⟨S5632x1280, .f32⟩
  | 91 => ⟨S5632x1280, .f32⟩
  | 92 => ⟨S5632x1280, .f32⟩
  | 93 => ⟨S5632x1280, .f32⟩
  | 94 => ⟨S_, .i32⟩
  | 95 => ⟨S5632x1280, .i32⟩
  | 96 => ⟨S5632x1280, .i32⟩
  | 97 => ⟨S_, .i32⟩
  | 98 => ⟨S5632x1280, .i32⟩
  | 99 => ⟨S5632x1280, .i32⟩
  | 100 => ⟨S_, .i32⟩
  | 101 => ⟨S5632x1280, .i32⟩
  | 102 => ⟨S5632x1280, .i1⟩
  | 103 => ⟨S5632x1280, .f32⟩
  | 104 => ⟨S5632x1280, .f32⟩
  | 105 => ⟨S_, .i32⟩
  | 106 => ⟨S5632x1280, .i32⟩
  | 107 => ⟨S5632x1280, .i32⟩
  | 108 => ⟨S_, .i32⟩
  | 109 => ⟨S5632x1280, .i32⟩
  | 110 => ⟨S5632x1280, .i32⟩
  | 111 => ⟨S_, .i32⟩
  | 112 => ⟨S5632x1280, .i32⟩
  | 113 => ⟨S5632x1280, .i1⟩
  | 114 => ⟨S5632x1280, .f32⟩
  | 115 => ⟨S5632x1280, .bf16⟩
  | 116 => ⟨S88x64x1280, .bf16⟩
  | 117 => ⟨S88x1x1280, .bf16⟩
  | 118 => ⟨S88x64x1280, .bf16⟩
  | 119 => ⟨S88x64x1280, .bf16⟩
  | 120 => ⟨S5632x1280, .bf16⟩
  | 121 => ⟨S1024x1280, .f32⟩
  | 122 => ⟨S1024x16, .f32⟩
  | 123 => ⟨S1024x16, .bf16⟩
  | 124 => ⟨S1024x1280, .f32⟩
  | 125 => ⟨S_, .f32⟩
  | 126 => ⟨S1024x1280, .f32⟩
  | 127 => ⟨S1024x1280, .f32⟩
  | _ => ⟨S4x256x5632, .bf16⟩

abbrev hbmTy0_1 (i : Nat) : BufTy := match i % 128 with
  | 0 => ⟨S1024x1280, .f32⟩
  | 1 => ⟨S1024x1280, .bf16⟩
  | _ => ⟨S4x256x5632, .bf16⟩

abbrev hbmTy (i : Nat) : BufTy := match i / 128 with
  | 0 => hbmTy0_0 i
  | 1 => hbmTy0_1 i
  | _ => ⟨S4x256x5632, .bf16⟩

abbrev bufTy : (tb : Table) → Fin (tcTables nBuf tb) → BufTy
  | .hbm, ⟨i, _⟩ => hbmTy i
  | _, _ => ⟨S4x256x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c : Ref sig .tc := ⟨.hbm, 21, rfl⟩
abbrev main_v14 : Ref sig .tc := ⟨.hbm, 22, rfl⟩
abbrev main_v15 : Ref sig .tc := ⟨.hbm, 23, rfl⟩
abbrev main_c_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_1 : Ref sig .tc := ⟨.hbm, 29, rfl⟩
abbrev main_v20 : Ref sig .tc := ⟨.hbm, 30, rfl⟩
abbrev main_v21 : Ref sig .tc := ⟨.hbm, 31, rfl⟩
abbrev main_c_2 : Ref sig .tc := ⟨.hbm, 32, rfl⟩
abbrev main_v22 : Ref sig .tc := ⟨.hbm, 33, rfl⟩
abbrev main_v23 : Ref sig .tc := ⟨.hbm, 34, rfl⟩
abbrev main_c_3 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_cst_5 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_cst_6 : Ref sig .tc := ⟨.hbm, 46, rfl⟩
abbrev main_cst_7 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_cst_8 : Ref sig .tc := ⟨.hbm, 51, rfl⟩
abbrev main_cst_9 : Ref sig .tc := ⟨.hbm, 52, rfl⟩
abbrev main_call2_v0 : Ref sig .tc := ⟨.hbm, 53, rfl⟩
abbrev main_call2_v1 : Ref sig .tc := ⟨.hbm, 54, rfl⟩
abbrev main_v30 : Ref sig .tc := ⟨.hbm, 55, rfl⟩
abbrev main_cst_10 : Ref sig .tc := ⟨.hbm, 56, rfl⟩
abbrev main_cst_11 : Ref sig .tc := ⟨.hbm, 57, rfl⟩
abbrev main_call3_v0 : Ref sig .tc := ⟨.hbm, 58, rfl⟩
abbrev main_call3_v1 : Ref sig .tc := ⟨.hbm, 59, rfl⟩
abbrev main_v31 : Ref sig .tc := ⟨.hbm, 60, rfl⟩
abbrev main_cst_12 : Ref sig .tc := ⟨.hbm, 61, rfl⟩
abbrev main_cst_13 : Ref sig .tc := ⟨.hbm, 62, rfl⟩
abbrev main_call4_v0 : Ref sig .tc := ⟨.hbm, 63, rfl⟩
abbrev main_call4_v1 : Ref sig .tc := ⟨.hbm, 64, rfl⟩
abbrev main_v32 : Ref sig .tc := ⟨.hbm, 65, rfl⟩
abbrev main_cst_14 : Ref sig .tc := ⟨.hbm, 66, rfl⟩
abbrev main_cst_15 : Ref sig .tc := ⟨.hbm, 67, rfl⟩
abbrev main_call5_v0 : Ref sig .tc := ⟨.hbm, 68, rfl⟩
abbrev main_call5_v1 : Ref sig .tc := ⟨.hbm, 69, rfl⟩
abbrev main_v33 : Ref sig .tc := ⟨.hbm, 70, rfl⟩
abbrev main_cst_16 : Ref sig .tc := ⟨.hbm, 71, rfl⟩
abbrev main_cst_17 : Ref sig .tc := ⟨.hbm, 72, rfl⟩
abbrev main_call6_v0 : Ref sig .tc := ⟨.hbm, 73, rfl⟩
abbrev main_call6_v1 : Ref sig .tc := ⟨.hbm, 74, rfl⟩
abbrev main_v34 : Ref sig .tc := ⟨.hbm, 75, rfl⟩
abbrev main_cst_18 : Ref sig .tc := ⟨.hbm, 76, rfl⟩
abbrev main_cst_19 : Ref sig .tc := ⟨.hbm, 77, rfl⟩
abbrev main_call7_v0 : Ref sig .tc := ⟨.hbm, 78, rfl⟩
abbrev main_call7_v1 : Ref sig .tc := ⟨.hbm, 79, rfl⟩
abbrev main_v35 : Ref sig .tc := ⟨.hbm, 80, rfl⟩
abbrev main_c_20 : Ref sig .tc := ⟨.hbm, 81, rfl⟩
abbrev main_v36 : Ref sig .tc := ⟨.hbm, 82, rfl⟩
abbrev main_v37 : Ref sig .tc := ⟨.hbm, 83, rfl⟩
abbrev main_c_21 : Ref sig .tc := ⟨.hbm, 84, rfl⟩
abbrev main_v38 : Ref sig .tc := ⟨.hbm, 85, rfl⟩
abbrev main_v39 : Ref sig .tc := ⟨.hbm, 86, rfl⟩
abbrev main_c_22 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_c_23 : Ref sig .tc := ⟨.hbm, 94, rfl⟩
abbrev main_v46 : Ref sig .tc := ⟨.hbm, 95, rfl⟩
abbrev main_v47 : Ref sig .tc := ⟨.hbm, 96, rfl⟩
abbrev main_c_24 : Ref sig .tc := ⟨.hbm, 97, rfl⟩
abbrev main_v48 : Ref sig .tc := ⟨.hbm, 98, rfl⟩
abbrev main_v49 : Ref sig .tc := ⟨.hbm, 99, rfl⟩
abbrev main_c_25 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_c_26 : Ref sig .tc := ⟨.hbm, 105, rfl⟩
abbrev main_v54 : Ref sig .tc := ⟨.hbm, 106, rfl⟩
abbrev main_v55 : Ref sig .tc := ⟨.hbm, 107, rfl⟩
abbrev main_c_27 : Ref sig .tc := ⟨.hbm, 108, rfl⟩
abbrev main_v56 : Ref sig .tc := ⟨.hbm, 109, rfl⟩
abbrev main_v57 : Ref sig .tc := ⟨.hbm, 110, rfl⟩
abbrev main_c_28 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_cst_29 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩

abbrev nD : Nat := 1
abbrev τ : Topo := Topo.v7x

variable {F : FTy → Type} [FloatOps F]
-- ==== Proof.Spec.lean ====
/-
  Hand-written, untrusted. THE MATHEMATICS both programs are read down to, over the extended reals: the NF4 table, the four-bit
  code of a weight, the decoded block scale, the dequantized weight, and the layer's result. Definitions only structure the
  proof: no statement of the certificate mentions them.
-/
module

public import Idealize.ShloMosaic.Lib.Pointwise

@[expose] public section

noncomputable section

namespace Cert.Qlora

open Idealize.ShloMosaic

/-- The NF4 table, as the single-precision words both programs print. -/
def nf4Bits : Fin 16 → BitVec 32 :=
  ![0xBF800000#32, 0xBF3239B1#32, 0xBF066B30#32, 0xBECA32A0#32, 0xBE91A24D#32, 0xBE3D353F#32, 0xBDBA7871#32, 0x00000000#32,
    0x3DA2FAFF#32, 0x3E24CAE3#32, 0x3E7C04DD#32, 0x3EAD033A#32, 0x3EE1A4B8#32, 0x3F1007AB#32, 0x3F3913B3#32, 0x3F800000#32]

/-- The table's entries as extended reals. -/
def nf4 (t : Fin 16) : EReal := Ideal.ofBits .f32 (nf4Bits t)

/-- The code a packed byte holds at parity `p`: its low four bits at 0, its high four bits at 1. -/
def code (w : BitVec 8) (p : Fin 2) : Fin 16 := ⟨w.toNat / 16 ^ p.val % 16, Nat.mod_lt _ (by decide)⟩

/-- The decoded scale of block `b` of 64 rows, in column `n`. -/
def absmax (ac : IVec ⟨2, ![88, 1280]⟩ 8) (sc : FVec Ideal ⟨2, ![11, 1280]⟩ .f32) (ao : FVec Ideal ⟨1, ![1280]⟩ .f32)
    (b : Fin 88) (n : Fin 1280) : EReal :=
  FloatOps.sitofp (F := Ideal) .f32 ((ac (ix2 b n)).signExtend 32) * sc (ix2 ⟨b.val / 8, by omega⟩ n) + ao (ix1 n)

/-- The dequantized weight at row `k`, column `n`. -/
def weight (wp : IVec ⟨2, ![2816, 1280]⟩ 8) (ac : IVec ⟨2, ![88, 1280]⟩ 8) (sc : FVec Ideal ⟨2, ![11, 1280]⟩ .f32)
    (ao : FVec Ideal ⟨1, ![1280]⟩ .f32) (k : Fin 5632) (n : Fin 1280) : EReal :=
  nf4 (code (wp (ix2 ⟨k.val / 2, by omega⟩ n)) ⟨k.val % 2, Nat.mod_lt _ (by decide)⟩) * absmax ac sc ao ⟨k.val / 64, by omega⟩ n

/-- The layer's result at row `i`, column `j`: `x·W + 2·(x·A)·B`. -/
def layer (x : FVec Ideal ⟨2, ![1024, 5632]⟩ .bf16) (w : Fin 5632 → EReal) (la : FVec Ideal ⟨2, ![5632, 16]⟩ .bf16)
    (lb : Fin 16 → EReal) (i : Fin 1024) : EReal :=
  (∑ k : Fin 5632, x (ix2 i k) * w k) + Ideal.ofBits .f32 0x40000000#32 * ∑ r : Fin 16, (∑ k : Fin 5632, x (ix2 i k) * la (ix2 k r)) * lb r

end Cert.Qlora

end
-- ==== Proof.Scales.lean ====
/-
  Hand-written, untrusted. THE SCALED TABLE: before its loop the kernel fills a scratch buffer, block by block of 64 rows, with
  the sixteen NF4 entries times the block's decoded scale, by 176 stores of one form. The stores, listed by one recursion, and
  what the buffer then holds at an index.
-/
module

public import proofs.«01_k».proof.Proof.Gen.KernelIdeal.Frame
public import proofs.«01_k».proof.Proof.Spec
public import Idealize.ShloMosaic.Lib.Pointwise

@[expose] public section

set_option maxRecDepth 16384

noncomputable section

namespace Cert.Qlora

open Idealize.ShloMosaic Idealize.SL.Sem Cert.KernelIdeal Cert.KernelIdeal.Gen

/-- One store's payload: the table times one block's scales, its even rows and odd rows laid in the buffer's pairs. -/
def amTile (row : FVec Ideal S1x128 .f32) (tab : Vec Ideal S16x128 .bf16) : Vec Ideal S1x8x2x128 .bf16 :=
  interleaveRows S1x8x2x128
    (shapeCast S1x8x1x128
      (shapeCast S1x8x128
        (rowsOfParity 0 S8x128
          (mulf tab (truncf .bf16 (broadcastTo S16x128 (shapeCast S1x128 row shapeCasts_S1x128_S1x128) broadcasts_S1x128_S16x128) bitsLt_bf16_f32))
          bitcasts_S16x128_w16_S8x128_w32)
        shapeCasts_S8x128_S1x8x128)
      shapeCasts_S1x8x128_S1x8x1x128)
    (shapeCast S1x8x1x128
      (shapeCast S1x8x128
        (rowsOfParity 1 S8x128
          (mulf tab (truncf .bf16 (broadcastTo S16x128 (shapeCast S1x128 row shapeCasts_S1x128_S1x128) broadcasts_S1x128_S16x128) bitsLt_bf16_f32))
          bitcasts_S16x128_w16_S8x128_w32)
        shapeCasts_S8x128_S1x8x128)
      shapeCasts_S1x8x128_S1x8x1x128)
    bitcasts_S1x8x2x128_w16_S1x8x1x128_w32

/-- It read at an index: the table's row `2j + p` times the scale of the column. -/
theorem amTile_apply (row : FVec Ideal S1x128 .f32) (tab : Vec Ideal S16x128 .bf16) (u : Fin 1) (j : Fin 8) (p : Fin 2) (n : Fin 128) :
    amTile row tab (ix4 u j p n) = tab (ix2 ⟨2 * j.val + p.val, by omega⟩ n) * row (ix2 0 n) := by
  pointwise [amTile]
  fin_cases p <;> simp

/-- The `q`-th store before the loop, block `q / 2` and column half `q % 2`. -/
def amPiece (v3 : Fin 11 → Vec Ideal S8x256 .i8) (v5 : Fin 11 → Vec Ideal S1x256 .f32) (v8 : Vec Ideal S1x256 .f32)
    (tab : Vec Ideal S16x128 .bf16) (q : ℕ) : View.Piece (Elt Ideal) S88x8x2x256 .bf16 :=
  ⟨Rect.unit ![q / 2 % 88, 0, 0, q % 2 * 128] S1x8x2x128.size (by
      have h1 : q / 2 % 88 < 88 := Nat.mod_lt _ (by decide)
      have h2 : q % 2 < 2 := Nat.mod_lt _ (by decide)
      intro a; fin_cases a <;> simp [S88x8x2x256, S1x8x2x128] <;> omega),
    amTile (extractStridedSlice S1x128 ![q / 2 % 8, q % 2 * 128]
      (k0_pay82 (v3 ⟨q / 16 % 11, Nat.mod_lt _ (by decide)⟩) (v5 ⟨q / 16 % 11, Nat.mod_lt _ (by decide)⟩) v8)
      (by
        have h1 : q / 2 % 8 < 8 := Nat.mod_lt _ (by decide)
        have h2 : q % 2 < 2 := Nat.mod_lt _ (by decide)
        refine ⟨rfl, fun a => ?_⟩
        fin_cases a <;> simp [S8x256, S1x128] <;> omega)) tab⟩

/-- The first `k` stores, the last first. -/
def amPieces (v3 : Fin 11 → Vec Ideal S8x256 .i8) (v5 : Fin 11 → Vec Ideal S1x256 .f32) (v8 : Vec Ideal S1x256 .f32)
    (tab : Vec Ideal S16x128 .bf16) : ℕ → List (View.Piece (Elt Ideal) S88x8x2x256 .bf16)
  | 0 => []
  | q + 1 => amPiece v3 v5 v8 tab q :: amPieces v3 v5 v8 tab q

/-- What the buffer holds after the stores: at block `b`, pair `j`, half `p`, column `n`, the table's row `2j + p` times the scale
    of block `b` in column `n`. -/
def amOf (v3 : Fin 11 → Vec Ideal S8x256 .i8) (v5 : Fin 11 → Vec Ideal S1x256 .f32) (v8 : Vec Ideal S1x256 .f32)
    (tab : Vec Ideal S16x128 .bf16) : Vec Ideal S88x8x2x256 .bf16 := fun y =>
  tab (ix2 ⟨2 * (y 1).val + (y 2).val, by have := (y 1).isLt; have := (y 2).isLt; simp [S88x8x2x256] at *; omega⟩
      ⟨(y 3).val % 128, Nat.mod_lt _ (by decide)⟩) *
    k0_pay82 (v3 ⟨(y 0).val / 8 % 11, Nat.mod_lt _ (by decide)⟩) (v5 ⟨(y 0).val / 8 % 11, Nat.mod_lt _ (by decide)⟩) v8
      (ix2 ⟨(y 0).val % 8, Nat.mod_lt _ (by decide)⟩ (y 3))

/-- Each store is a block of it. -/
theorem amPiece_apply (v3 : Fin 11 → Vec Ideal S8x256 .i8) (v5 : Fin 11 → Vec Ideal S1x256 .f32) (v8 : Vec Ideal S1x256 .f32)
    (tab : Vec Ideal S16x128 .bf16) (q : ℕ) (hq : q < 176) (x : (amPiece v3 v5 v8 tab q).1.shape.Idx) :
    (amPiece v3 v5 v8 tab q).2 x = amOf v3 v5 v8 tab ((amPiece v3 v5 v8 tab q).1.emb x) := by
  obtain ⟨u, j, p, n, rfl⟩ : ∃ (u : Fin 1) (j : Fin 8) (p : Fin 2) (n : Fin 128), x = ix4 u j p n :=
    ⟨x 0, x 1, x 2, x 3, by ext a; fin_cases a <;> rfl⟩
  have h1 : q / 2 % 88 = q / 2 := by omega
  have e0 : (((amPiece v3 v5 v8 tab q).1.emb (ix4 u j p n)) 0).val = q / 2 := by
    show q / 2 % 88 + 1 * u.val = _
    omega
  have e1 : (((amPiece v3 v5 v8 tab q).1.emb (ix4 u j p n)) 1).val = j.val := by
    show 0 + 1 * j.val = _
    omega
  have e2 : (((amPiece v3 v5 v8 tab q).1.emb (ix4 u j p n)) 2).val = p.val := by
    show 0 + 1 * p.val = _
    omega
  have e3 : (((amPiece v3 v5 v8 tab q).1.emb (ix4 u j p n)) 3).val = q % 2 * 128 + n.val := by
    show q % 2 * 128 + 1 * n.val = _
    omega
  show amTile _ tab (ix4 u j p n) = _
  rw [amTile_apply]
  unfold amOf
  have g : q / 2 / 8 % 11 = q / 16 % 11 := by omega
  congr 2
  · ext a; fin_cases a <;> simp [e1, e2, e3]; omega
  · have f : ∀ (a b : Fin 11) (i i' : S8x256.Idx), a = b → i = i' → k0_pay82 (v3 a) (v5 a) v8 i = k0_pay82 (v3 b) (v5 b) v8 i' := by
      rintro a _ i _ rfl rfl; rfl
    refine f _ _ _ _ (Fin.ext ?_) (funext fun a => Fin.ext ?_)
    · simp only [e0, g]
    · fin_cases a
      · show q / 2 % 8 + 0 = _ % 8
        rw [e0]; omega
      · show q % 2 * 128 + n.val = _
        exact e3.symm

/-- All the first `k` stores are blocks of it. -/
theorem amPieces_of (v3 : Fin 11 → Vec Ideal S8x256 .i8) (v5 : Fin 11 → Vec Ideal S1x256 .f32) (v8 : Vec Ideal S1x256 .f32)
    (tab : Vec Ideal S16x128 .bf16) : ∀ k, k ≤ 176 → ∀ p ∈ amPieces v3 v5 v8 tab k,
      ∀ x : p.1.shape.Idx, p.2 x = amOf v3 v5 v8 tab (p.1.emb x)
  | 0, _, _, hp, _ => absurd hp List.not_mem_nil
  | q + 1, h, p, hp, x => by
    rcases List.mem_cons.mp hp with rfl | hp
    · exact amPiece_apply v3 v5 v8 tab q h x
    · exact amPieces_of v3 v5 v8 tab q (by omega) p hp x

/-- The `q`-th store is among the first `k` when `q < k`. -/
theorem amPiece_mem (v3 : Fin 11 → Vec Ideal S8x256 .i8) (v5 : Fin 11 → Vec Ideal S1x256 .f32) (v8 : Vec Ideal S1x256 .f32)
    (tab : Vec Ideal S16x128 .bf16) (q : ℕ) : ∀ k, q < k → amPiece v3 v5 v8 tab q ∈ amPieces v3 v5 v8 tab k
  | 0, h => absurd h (Nat.not_lt_zero _)
  | k + 1, h => by
    rcases Nat.lt_succ_iff_lt_or_eq.mp h with h | rfl
    · exact List.mem_cons_of_mem _ (amPiece_mem v3 v5 v8 tab q k h)
    · exact List.mem_cons_self

/-- The 176 stores leave the scaled table in the whole buffer. -/
theorem canon_amPieces (v3 : Fin 11 → Vec Ideal S8x256 .i8) (v5 : Fin 11 → Vec Ideal S1x256 .f32) (v8 : Vec Ideal S1x256 .f32)
    (tab : Vec Ideal S16x128 .bf16) : View.canon (amPieces v3 v5 v8 tab 176) = amOf v3 v5 v8 tab := by
  funext y
  have b0 : (y 0).val < 88 := (y 0).isLt
  have b1 : (y 1).val < 8 := (y 1).isLt
  have b2 : (y 2).val < 2 := (y 2).isLt
  have b3 : (y 3).val < 256 := (y 3).isLt
  refine View.canon_apply_of_pieces _ _ (amPieces_of v3 v5 v8 tab 176 le_rfl) y
    ⟨_, amPiece_mem v3 v5 v8 tab (2 * (y 0).val + (y 3).val / 128) 176 (by omega), ?_⟩
  unfold amPiece
  rw [Rect.mem_set_unit]
  intro a
  fin_cases a
  · show (2 * (y 0).val + (y 3).val / 128) / 2 % 88 ≤ (y 0).val ∧ (y 0).val < (2 * (y 0).val + (y 3).val / 128) / 2 % 88 + 1
    omega
  · show 0 ≤ (y 1).val ∧ (y 1).val < 0 + 8
    omega
  · show 0 ≤ (y 2).val ∧ (y 2).val < 0 + 2
    omega
  · show (2 * (y 0).val + (y 3).val / 128) % 2 * 128 ≤ (y 3).val ∧ (y 3).val < (2 * (y 0).val + (y 3).val / 128) % 2 * 128 + 128
    omega

end Cert.Qlora
end
-- ==== Proof.Tile.lean ====
/-
  Hand-written, untrusted. ONE TILE OF THE LOOP: sixteen rows of dequantized weights, read off eight rows of packed bytes by two
  gathers from the block's scaled table. Each of a trip's eight stores is such a tile; a tile read at an index is the scaled
  table at the row of the code the byte holds.
-/
module

public import proofs.«01_k».proof.Proof.Gen.KernelIdeal.Frame
public import proofs.«01_k».proof.Proof.Spec
public import Idealize.ShloMosaic.Lib.Pointwise

@[expose] public section

set_option maxRecDepth 16384

noncomputable section

namespace Cert.Qlora

open Idealize.ShloMosaic Idealize.SL.Sem Cert.KernelIdeal Cert.KernelIdeal.Gen

/-- Rows of one half of the scaled table, gathered at the rows `idx`. -/
def gatherHalf (half : FVec Ideal S8x128 .bf16) (idx : IVec S8x128 32) : FVec Ideal S8x128 .bf16 :=
  truncf .bf16 (dynamicGather 0 (extf .f32 half)
    (shapeCast S8x128
      (shapeCast S8x128x1
        (select (cmpi .slt idx (broadcast S8x128 0#32)) (addi idx (broadcast S8x128 8#32)) idx) shapeCasts_S8x128_S8x128x1)
      shapeCasts_S8x128x1_S8x128)) bitsLt_bf16_f32

/-- The tile of sixteen rows that eight rows of byte codes select from a block's scaled table. -/
def tileOf (raw : Vec Ideal S1x8x2x128 .bf16) (codes : IVec S8x128 32) : FVec Ideal S16x128 .bf16 :=
  interleaveRows S16x128
    (select (cmpi .ne (andi codes (broadcast S8x128 8#32)) (broadcast S8x128 0#32))
      (gatherHalf (k0_pay7 raw) (andi codes (broadcast S8x128 7#32)))
      (gatherHalf (k0_pay6 raw) (andi codes (broadcast S8x128 7#32))))
    (select (cmpi .ne (andi codes (broadcast S8x128 128#32)) (broadcast S8x128 0#32))
      (gatherHalf (k0_pay7 raw) (andi (shrsi codes (broadcast S8x128 4#32)) (broadcast S8x128 7#32)))
      (gatherHalf (k0_pay6 raw) (andi (shrsi codes (broadcast S8x128 4#32)) (broadcast S8x128 7#32))))
    bitcasts_S16x128_w16_S8x128_w32

theorem half_lo (raw : Vec Ideal S1x8x2x128 .bf16) (i : Fin 8) (n : Fin 128) :
    k0_pay6 raw (ix2 i n) = raw (ix4 0 i 0 n) := by
  pointwise [k0_pay6]

theorem half_hi (raw : Vec Ideal S1x8x2x128 .bf16) (i : Fin 8) (n : Fin 128) :
    k0_pay7 raw (ix2 i n) = raw (ix4 0 i 1 n) := by
  pointwise [k0_pay7]

theorem gatherHalf_apply (half : FVec Ideal S8x128 .bf16) (idx : IVec S8x128 32) (i : Fin 8) (n : Fin 128) :
    gatherHalf half idx (ix2 i n) = half (ix2 ⟨(idx (ix2 i n)).toNat % 8, Nat.mod_lt _ (by decide)⟩ n) := by
  pointwise [gatherHalf]
  congr 3
  unfold Scalar.select
  split
  · show ((idx (ix2 i n)) + 8#32).toNat % 8 = _
    rw [BitVec.toNat_add]
    simp
  · rfl

/-- A byte's low four bits: their table row, and which half of the pair they take. -/
theorem low_row : ∀ w : BitVec 8, (IntOp.andi (BitVec.setWidth 32 w) 7#32).toNat % 8 = (code w 0).val % 8 := by
  decide +kernel

theorem low_half : ∀ w : BitVec 8, IntOp.cmpi .ne (IntOp.andi (BitVec.setWidth 32 w) 8#32) 0#32
    = if (code w 0).val / 8 = 1 then 1#1 else 0#1 := by
  decide +kernel

/-- A byte's high four bits, likewise. -/
theorem high_row : ∀ w : BitVec 8, (IntOp.andi (IntOp.shrsi .vector (BitVec.setWidth 32 w) 4#32) 7#32).toNat % 8 = (code w 1).val % 8 := by
  decide +kernel

theorem high_half : ∀ w : BitVec 8, IntOp.cmpi .ne (IntOp.andi (BitVec.setWidth 32 w) 128#32) 0#32
    = if (code w 1).val / 8 = 1 then 1#1 else 0#1 := by
  decide +kernel

/-- Choosing the pair's second half where the code is eight or more, its first half elsewhere, is reading the half the code names. -/
theorem pick (raw : Vec Ideal S1x8x2x128 .bf16) (t : Fin 16) (r : Fin 8) (n : Fin 128) :
    Scalar.select (if t.val / 8 = 1 then 1#1 else 0#1) (raw (ix4 0 r 1 n)) (raw (ix4 0 r 0 n))
      = raw (ix4 0 r ⟨t.val / 8, by omega⟩ n) := by
  fin_cases t <;> rfl

/-- A tile read at an index: row `2a + p` is the scaled table at the code the `a`-th byte holds at parity `p`. -/
theorem tileOf_apply (raw : Vec Ideal S1x8x2x128 .bf16) (w : Vec Ideal S8x128 .i8) (i : Fin 16) (n : Fin 128) :
    tileOf raw (extui 32 w natLt_8_32) (ix2 i n)
      = raw (ix4 0 ⟨(code (w (ix2 ⟨i.val / 2, by omega⟩ n)) ⟨i.val % 2, Nat.mod_lt _ (by decide)⟩).val % 8, Nat.mod_lt _ (by decide)⟩
          ⟨(code (w (ix2 ⟨i.val / 2, by omega⟩ n)) ⟨i.val % 2, Nat.mod_lt _ (by decide)⟩).val / 8, by omega⟩ n) := by
  pointwise [tileOf, gatherHalf_apply, half_lo, half_hi]
  simp only [low_row, low_half, high_row, high_half, pick]
  rcases Nat.mod_two_eq_zero_or_one i.val with h | h <;> simp [h] <;> exact pick raw _ _ n

end Cert.Qlora
end
-- ==== Proof.Loop.lean ====
/-
  Hand-written, untrusted. THE LOOP: trip `k` dequantizes the 64 rows of block `k` by eight stores, four of each column half;
  after the 88 trips the weight buffer holds, at row `q` and column `n`, the scaled table of block `q / 64` at the code of
  weight `q`.
-/
module

public import proofs.«01_k».proof.Proof.Tile

@[expose] public section

set_option maxRecDepth 16384

noncomputable section

namespace Cert.Qlora

open Idealize.ShloMosaic Idealize.SL.Sem Cert.KernelIdeal Cert.KernelIdeal.Gen Idealize.ShloMosaic.TcCoe

/-- The `r`-th eight rows lie within the thirty-two. -/
theorem slices_eight (r : Fin 4) : S32x128.Slices ![8 * r.val, 0] S8x128 := by
  refine ⟨rfl, fun a => ?_⟩
  have := r.isLt
  fin_cases a <;> simp [S32x128, S8x128] <;> omega

/-- One store's payload: the tile of the `r`-th eight of a block's 32 rows of bytes. -/
def dqTile (raw : Vec Ideal S1x8x2x128 .bf16) (w : Vec Ideal S32x128 .i8) (r : Fin 4) : Vec Ideal S16x128 .bf16 :=
  shapeCast S16x128 (tileOf raw (extractStridedSlice S8x128 ![8 * r.val, 0] (extui 32 w natLt_8_32) (slices_eight r))) shapeCasts_S16x128_S16x128

/-- It read at an index. -/
theorem dqTile_apply (raw : Vec Ideal S1x8x2x128 .bf16) (w : Vec Ideal S32x128 .i8) (r : Fin 4) (i : Fin 16) (n : Fin 128) :
    dqTile raw w r (ix2 i n)
      = raw (ix4 0 ⟨(code (w (ix2 ⟨8 * r.val + i.val / 2, by omega⟩ n)) ⟨i.val % 2, Nat.mod_lt _ (by decide)⟩).val % 8, Nat.mod_lt _ (by decide)⟩
          ⟨(code (w (ix2 ⟨8 * r.val + i.val / 2, by omega⟩ n)) ⟨i.val % 2, Nat.mod_lt _ (by decide)⟩).val / 8, by omega⟩ n) := by
  show shapeCast S16x128 (tileOf raw (extui 32 (extractStridedSlice S8x128 ![8 * r.val, 0] w (slices_eight r)) natLt_8_32)) shapeCasts_S16x128_S16x128 (ix2 i n) = _
  pointwise [tileOf_apply]

/-- What the weight buffer holds after the loop, as the scaled table's buffer and the packed bytes. -/
def wOf (am : Vec Ideal S88x8x2x256 .bf16) (wp : Vec Ideal S2816x256 .i8) : Vec Ideal S5632x256 .bf16 := fun y =>
  let t := code (wp (ix2 ⟨(y 0).val / 2, by have := (y 0).isLt; simp [S5632x256] at this; omega⟩ (y 1))) ⟨(y 0).val % 2, Nat.mod_lt _ (by decide)⟩
  am (ix4 ⟨(y 0).val / 64, by have := (y 0).isLt; simp [S5632x256] at this; omega⟩ ⟨t.val % 8, Nat.mod_lt _ (by decide)⟩ ⟨t.val / 8, by omega⟩ (y 1))

/-- A tile of block `k` is a block of it. -/
theorem dqTile_block (am : Vec Ideal S88x8x2x256 .bf16) (wp : Vec Ideal S2816x256 .i8) (raw : Vec Ideal S1x8x2x128 .bf16)
    (w : Vec Ideal S32x128 .i8) (k : Fin 88) (r : Fin 4) (h : Fin 2)
    (hraw : ∀ (j : Fin 8) (p : Fin 2) (n : Fin 128), raw (ix4 0 j p n) = am (ix4 k j p ⟨128 * h.val + n.val, by omega⟩))
    (hw : ∀ (a : Fin 32) (n : Fin 128), w (ix2 a n) = wp (ix2 ⟨32 * k.val + a.val, by omega⟩ ⟨128 * h.val + n.val, by omega⟩))
    (off : Fin 2 → ℕ) (hoff : off = ![64 * k.val + 16 * r.val, 128 * h.val])
    (inb : ∀ a, off a + S16x128.size a ≤ S5632x256.size a) (x : S16x128.Idx) :
    dqTile raw w r x = wOf am wp ((Rect.unit (s := S5632x256) off S16x128.size inb).emb x) := by
  subst hoff
  obtain ⟨i, n, rfl⟩ : ∃ (i : Fin 16) (n : Fin 128), x = ix2 i n := ⟨x 0, x 1, by ext a; fin_cases a <;> rfl⟩
  have e0 : (((Rect.unit (s := S5632x256) ![64 * k.val + 16 * r.val, 128 * h.val] S16x128.size inb).emb (ix2 i n)) 0).val
      = 64 * k.val + 16 * r.val + i.val := by
    show 64 * k.val + 16 * r.val + 1 * i.val = _
    omega
  have e1 : (((Rect.unit (s := S5632x256) ![64 * k.val + 16 * r.val, 128 * h.val] S16x128.size inb).emb (ix2 i n)) 1)
      = (⟨128 * h.val + n.val, by omega⟩ : Fin 256) := by
    apply Fin.ext
    show 128 * h.val + 1 * n.val = _
    simp
  rw [dqTile_apply, hraw]
  unfold wOf
  have d0 : (64 * k.val + 16 * r.val + i.val) / 2 = 32 * k.val + (8 * r.val + i.val / 2) := by omega
  have d1 : (64 * k.val + 16 * r.val + i.val) % 2 = i.val % 2 := by omega
  have d2 : (64 * k.val + 16 * r.val + i.val) / 64 = k.val := by omega
  simp only [hw, e0, e1, d0, d1, d2]

theorem off1_eq : ∀ k : Fin k0_t1_loop.trips, k0_off1 k = ![k.val, 0, 0, 0] := by decide +kernel
theorem off2_eq : ∀ k : Fin k0_t1_loop.trips, k0_off2 k = ![32 * k.val, 0] := by decide +kernel
theorem off3_eq : ∀ (k : Fin k0_t1_loop.trips) (r : Fin 4), k0_off3 k (BitVec.ofNat 32 (16 * r.val)) = ![64 * k.val + 16 * r.val, 0] := by
  decide +kernel
theorem off4_eq : ∀ k : Fin k0_t1_loop.trips, k0_off4 k = ![k.val, 0, 0, 128] := by decide +kernel
theorem off5_eq : ∀ k : Fin k0_t1_loop.trips, k0_off5 k = ![32 * k.val, 128] := by decide +kernel
theorem off6_eq : ∀ (k : Fin k0_t1_loop.trips) (r : Fin 4), k0_off6 k (BitVec.ofNat 32 (16 * r.val)) = ![64 * k.val + 16 * r.val, 128] := by
  decide +kernel

theorem inb_tile : ∀ (k : Fin 88) (r : Fin 4) (h : Fin 2) (a : Fin 2),
    (![64 * k.val + 16 * r.val, 128 * h.val] : Fin 2 → ℕ) a + S16x128.size a ≤ S5632x256.size a := by
  intro k r h a
  fin_cases a <;> simp [S16x128, S5632x256] <;> omega

theorem inb_of {off off' : Fin 2 → ℕ} (e : off = off') (h : ∀ a, off' a + S16x128.size a ≤ S5632x256.size a) :
    ∀ a, off a + S16x128.size a ≤ S5632x256.size a := by
  subst e; exact h

/-- The tiles of trip `k`, the last stored first. -/
def tripPieces (k : Fin k0_t1_loop.trips) (raw raw' : Vec Ideal S1x8x2x128 .bf16) (w w' : Vec Ideal S32x128 .i8) :
    List (View.Piece (Elt Ideal) S5632x256 .bf16) :=
  [⟨Rect.unit (k0_off6 k 48#32) S16x128.size (inb_of (off6_eq k 3) (inb_tile k 3 1)), dqTile raw' w' 3⟩,
   ⟨Rect.unit (k0_off6 k 32#32) S16x128.size (inb_of (off6_eq k 2) (inb_tile k 2 1)), dqTile raw' w' 2⟩,
   ⟨Rect.unit (k0_off6 k 16#32) S16x128.size (inb_of (off6_eq k 1) (inb_tile k 1 1)), dqTile raw' w' 1⟩,
   ⟨Rect.unit (k0_off6 k 0#32) S16x128.size (inb_of (off6_eq k 0) (inb_tile k 0 1)), dqTile raw' w' 0⟩,
   ⟨Rect.unit (k0_off3 k 48#32) S16x128.size (inb_of (off3_eq k 3) (inb_tile k 3 0)), dqTile raw w 3⟩,
   ⟨Rect.unit (k0_off3 k 32#32) S16x128.size (inb_of (off3_eq k 2) (inb_tile k 2 0)), dqTile raw w 2⟩,
   ⟨Rect.unit (k0_off3 k 16#32) S16x128.size (inb_of (off3_eq k 1) (inb_tile k 1 0)), dqTile raw w 1⟩,
   ⟨Rect.unit (k0_off3 k 0#32) S16x128.size (inb_of (off3_eq k 0) (inb_tile k 0 0)), dqTile raw w 0⟩]

/-- A trip's stores are its tiles. -/
theorem trip_eq (𝒱 : Variants) (c : Dev nD) (bd : Option 𝒱.V) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (v1723 : FVec Ideal S8x256 .f32) (v1863_lo : FVec Ideal S1x8x128 .bf16) (v1863_hi : FVec Ideal S1x8x128 .bf16) (X_arg2 : BufTy.Contents (Elt Ideal) arg2.view.ty) (X_arg10 : BufTy.Contents (Elt Ideal) arg10.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v1723 v1863_lo v1863_hi X_arg2 X_arg10 k = tripPieces k
      (View.readAt (Elt Ideal) arg10.view (Rect.unit (s := S88x8x2x256) (k0_off1 k) S1x8x2x128.size (k0_off1_inb k)).toLoadRect X_arg10)
      (View.readAt (Elt Ideal) arg10.view (Rect.unit (s := S88x8x2x256) (k0_off4 k) S1x8x2x128.size (k0_off4_inb k)).toLoadRect X_arg10)
      (View.readAt (Elt Ideal) arg2.view (Rect.unit (s := S2816x256) (k0_off2 k) S32x128.size (k0_off2_inb k)).toLoadRect X_arg2)
      (View.readAt (Elt Ideal) arg2.view (Rect.unit (s := S2816x256) (k0_off5 k) S32x128.size (k0_off5_inb k)).toLoadRect X_arg2) := by

  sl_kernel_rfl

/-- A load of block `k`'s scaled table, one column half of it. -/
theorem read_pair (m : Memref sig .tc .vmem S88x8x2x256 .bf16) (X : BufTy.Contents (Elt Ideal) m.view.ty) (am : Vec Ideal S88x8x2x256 .bf16)
    (hX : m.view.read (Elt Ideal) X = am) (off : Fin 4 → ℕ) (k : Fin 88) (h : Fin 2) (e : off = ![k.val, 0, 0, 128 * h.val])
    (inb : ∀ a, off a + S1x8x2x128.size a ≤ S88x8x2x256.size a) (j : Fin 8) (p : Fin 2) (n : Fin 128) :
    View.readAt (Elt Ideal) m.view (Rect.unit (s := S88x8x2x256) off S1x8x2x128.size inb).toLoadRect X (ix4 0 j p n)
      = am (ix4 k j p ⟨128 * h.val + n.val, by omega⟩) := by
  subst e
  rw [View.readAt_apply, hX]
  congr 1
  funext a
  apply Fin.ext
  fin_cases a
  · show k.val + 1 * 0 = k.val
    simp
  · show 0 + 1 * j.val = j.val
    simp
  · show 0 + 1 * p.val = p.val
    simp
  · show 128 * h.val + 1 * n.val = 128 * h.val + n.val
    simp

/-- A load of block `k`'s packed bytes, one column half of them. -/
theorem read_bytes (m : Memref sig .tc .vmem S2816x256 .i8) (X : BufTy.Contents (Elt Ideal) m.view.ty) (wp : Vec Ideal S2816x256 .i8)
    (hX : m.view.read (Elt Ideal) X = wp) (off : Fin 2 → ℕ) (k : Fin 88) (h : Fin 2) (e : off = ![32 * k.val, 128 * h.val])
    (inb : ∀ a, off a + S32x128.size a ≤ S2816x256.size a) (b : Fin 32) (n : Fin 128) :
    View.readAt (Elt Ideal) m.view (Rect.unit (s := S2816x256) off S32x128.size inb).toLoadRect X (ix2 b n)
      = wp (ix2 ⟨32 * k.val + b.val, by omega⟩ ⟨128 * h.val + n.val, by omega⟩) := by
  subst e
  rw [View.readAt_apply, hX]
  congr 1
  funext a
  apply Fin.ext
  fin_cases a
  · show 32 * k.val + 1 * b.val = 32 * k.val + b.val
    simp
  · show 128 * h.val + 1 * n.val = 128 * h.val + n.val
    simp

/-- They are blocks of what the loop leaves. -/
theorem trip_of (𝒱 : Variants) (c : Dev nD) (bd : Option 𝒱.V) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (v1723 : FVec Ideal S8x256 .f32) (v1863_lo : FVec Ideal S1x8x128 .bf16) (v1863_hi : FVec Ideal S1x8x128 .bf16) (X_arg2 : BufTy.Contents (Elt Ideal) arg2.view.ty) (X_arg10 : BufTy.Contents (Elt Ideal) arg10.view.ty) (k : Fin k0_t1_loop.trips) (am : Vec Ideal S88x8x2x256 .bf16) (wp : Vec Ideal S2816x256 .i8)
    (h10 : arg10.view.read (Elt Ideal) X_arg10 = am) (h2 : arg2.view.read (Elt Ideal) X_arg2 = wp) :
    ∀ p ∈ tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v1723 v1863_lo v1863_hi X_arg2 X_arg10 k, ∀ x : p.1.shape.Idx, p.2 x = wOf am wp (p.1.emb x) := by
  have r1 := fun j p n => read_pair arg10 X_arg10 am h10 (k0_off1 k) k 0 (off1_eq k) (k0_off1_inb k) j p n
  have r2 := fun j p n => read_pair arg10 X_arg10 am h10 (k0_off4 k) k 1 (off4_eq k) (k0_off4_inb k) j p n
  have w1 := fun a n => read_bytes arg2 X_arg2 wp h2 (k0_off2 k) k 0 (off2_eq k) (k0_off2_inb k) a n
  have w2 := fun a n => read_bytes arg2 X_arg2 wp h2 (k0_off5 k) k 1 (off5_eq k) (k0_off5_inb k) a n
  rw [trip_eq]
  simp only [tripPieces, List.forall_mem_cons, List.not_mem_nil, false_imp_iff, implies_true, and_true]
  exact ⟨dqTile_block am wp _ _ k 3 1 r2 w2 _ (off6_eq k 3) _, dqTile_block am wp _ _ k 2 1 r2 w2 _ (off6_eq k 2) _,
    dqTile_block am wp _ _ k 1 1 r2 w2 _ (off6_eq k 1) _, dqTile_block am wp _ _ k 0 1 r2 w2 _ (off6_eq k 0) _,
    dqTile_block am wp _ _ k 3 0 r1 w1 _ (off3_eq k 3) _, dqTile_block am wp _ _ k 2 0 r1 w1 _ (off3_eq k 2) _,
    dqTile_block am wp _ _ k 1 0 r1 w1 _ (off3_eq k 1) _, dqTile_block am wp _ _ k 0 0 r1 w1 _ (off3_eq k 0) _⟩

/-- So are the stores of the first `k` trips. -/
theorem loop_of (𝒱 : Variants) (c : Dev nD) (bd : Option 𝒱.V) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (v1723 : FVec Ideal S8x256 .f32) (v1863_lo : FVec Ideal S1x8x128 .bf16) (v1863_hi : FVec Ideal S1x8x128 .bf16) (X_arg2 : BufTy.Contents (Elt Ideal) arg2.view.ty) (X_arg10 : BufTy.Contents (Elt Ideal) arg10.view.ty) (am : Vec Ideal S88x8x2x256 .bf16) (wp : Vec Ideal S2816x256 .i8)
    (h10 : arg10.view.read (Elt Ideal) X_arg10 = am) (h2 : arg2.view.read (Elt Ideal) X_arg2 = wp) :
    ∀ k, k ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 arg12 harg12 v1723 v1863_lo v1863_hi X_arg2 X_arg10 k, ∀ x : p.1.shape.Idx, p.2 x = wOf am wp (p.1.emb x)
  | 0, _, _, hp, _ => absurd hp List.not_mem_nil
  | q + 1, h, p, hp, x => by
    rw [pb_k0_t1_succ 𝒱 c bd i arg1 harg1 arg2 harg2 arg3 harg3 arg4 harg4 arg5 harg5 arg6 harg6 arg7 harg7 arg8 harg8 arg9 harg9 arg10 harg10 arg11 harg11 arg12 harg12 v1723 v1863_lo v1863_hi X_arg2 X_arg10 ⟨q, h⟩] at hp
    rcases List.mem_append.mp hp with hp | hp
    · exact trip_of 𝒱 c bd i arg1 harg1 arg2 harg2 arg3 harg3 arg4 harg4 arg5 harg5 arg6 harg6 arg7 harg7 arg8 harg8 arg9 harg9 arg10 harg10 arg11 harg11 arg12 harg12 v1723 v1863_lo v1863_hi X_arg2 X_arg10 ⟨q, h⟩ am wp h10 h2 p hp x
    · exact loop_of 𝒱 c bd i arg1 harg1 arg2 harg2 arg3 harg3 arg4 harg4 arg5 harg5 arg6 harg6 arg7 harg7 arg8 harg8 arg9 harg9 arg10 harg10 arg11 harg11 arg12 harg12 v1723 v1863_lo v1863_hi X_arg2 X_arg10 am wp h10 h2 q (Nat.le_of_succ_le h) p hp x

/-- The loop leaves the dequantized weights in the whole buffer. -/
theorem canon_loop (𝒱 : Variants) (c : Dev nD) (bd : Option 𝒱.V) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (v1723 : FVec Ideal S8x256 .f32) (v1863_lo : FVec Ideal S1x8x128 .bf16) (v1863_hi : FVec Ideal S1x8x128 .bf16) (X_arg2 : BufTy.Contents (Elt Ideal) arg2.view.ty) (X_arg10 : BufTy.Contents (Elt Ideal) arg10.view.ty) (am : Vec Ideal S88x8x2x256 .bf16) (wp : Vec Ideal S2816x256 .i8)
    (h10 : arg10.view.read (Elt Ideal) X_arg10 = am) (h2 : arg2.view.read (Elt Ideal) X_arg2 = wp) :
    View.canon (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v1723 v1863_lo v1863_hi X_arg2 X_arg10 (Scf.trips k0_t1_loop.lb k0_t1_loop.ub k0_t1_loop.st)) = wOf am wp := by
  funext y
  exact View.canon_apply_of_pieces _ _ (loop_of 𝒱 c bd i arg1 harg1 arg2 harg2 arg3 harg3 arg4 harg4 arg5 harg5 arg6 harg6 arg7 harg7 arg8 harg8 arg9 harg9 arg10 harg10 arg11 harg11 arg12 harg12 v1723 v1863_lo v1863_hi X_arg2 X_arg10 am wp h10 h2 _ le_rfl) y
    (View.cover_of_tiledL (pb_k0_t1 (F := Ideal) 𝒱 c bd i arg1 harg1 arg2 harg2 arg3 harg3 arg4 harg4 arg5 harg5 arg6 harg6 arg7 harg7 arg8 harg8 arg9 harg9 arg10 harg10 arg11 harg11 arg12 harg12 v1723 v1863_lo v1863_hi X_arg2 X_arg10 (Scf.trips k0_t1_loop.lb k0_t1_loop.ub k0_t1_loop.st)) S16x128.size (by sl_kernel_rfl) y)

end Cert.Qlora
end
-- ==== Proof.Body.lean ====
/-
  Hand-written, untrusted. ONE GRID POINT'S RUN: what its stores leave in the output block and in the two buffers the kernel
  carries from its first point on (the table and `x @ lora_a`), as plain functions of the point's input blocks.
-/
module

public import proofs.«01_k».proof.Proof.Scales
public import proofs.«01_k».proof.Proof.Loop

@[expose] public section

set_option maxRecDepth 16384
set_option maxHeartbeats 4000000

noncomputable section

namespace Cert.Qlora

open Idealize.ShloMosaic Idealize.SL.Sem Cert.KernelIdeal Cert.KernelIdeal.Gen Idealize.ShloMosaic.TcCoe

/-- The load offsets of a group's codes and scales. -/
theorem inb_codes (g : Fin 11) : ∀ a, (![8 * g.val, 0] : Fin 2 → Nat) a + S8x256.size a ≤ S88x256.size a := by revert g; decide
theorem inb_scale (g : Fin 11) : ∀ a, (![g.val, 0] : Fin 2 → Nat) a + S1x256.size a ≤ S11x256.size a := by revert g; decide

/-- The table as the first point stores it. -/
def tab0 : Vec Ideal S16x128 .bf16 := k0_pay4 (iota .tc S16x128 32 [0] iota_S16x128_d0_w32) (k0_pay2 (F := Ideal)) k0_pay3

/-- `x @ lora_a` as the first point stores it. -/
def h0 (x0 : Vec Ideal S1024x5632 .bf16) (x5 : Vec Ideal S5632x16 .bf16) : Vec Ideal S1024x16 .bf16 := k0_pay81 (k0_pay5 x0 x5)

/-- Group `g`'s eight rows of scale codes. -/
def codesOf (x2 : Vec Ideal S88x256 .i8) (g : Fin 11) : Vec Ideal S8x256 .i8 := fun j =>
  x2 (ix2 ⟨8 * g.val + (j 0).val, by have := (j 0).isLt; simp [S8x256] at this; omega⟩ (j 1))

/-- Group `g`'s row of scales. -/
def scaleOf (x3 : Vec Ideal S11x256 .f32) (g : Fin 11) : Vec Ideal S1x256 .f32 := fun j => x3 (ix2 g (j 1))

/-- The output block a point stores. -/
def blockOut (x0 : Vec Ideal S1024x5632 .bf16) (x1 : Vec Ideal S2816x256 .i8) (x2 : Vec Ideal S88x256 .i8) (x3 : Vec Ideal S11x256 .f32)
    (x4 : Vec Ideal S1x256 .f32) (x6 : Vec Ideal S16x256 .bf16) (tab : Vec Ideal S16x128 .bf16) (h : Vec Ideal S1024x16 .bf16) :
    Vec Ideal S1024x256 .bf16 :=
  k0_pay1 (k0_pay411 x0) (wOf (amOf (codesOf x2) (scaleOf x3) x4 tab) x1) (constant S1024x256 .f32 0x00000000#32) h x6

/-- A load of a whole buffer reads what it holds. -/
theorem read_whole {s : Shape} {e : EltTy} (m : Memref sig .tc .vmem s e) (hm : m.IsWhole) (X : s.Idx → Elt Ideal e) (off : Fin s.rank → ℕ)
    (h : off = fun _ => 0) (inb : ∀ a, off a + s.size a ≤ s.size a) :
    View.readAt (Elt Ideal) m.view (Rect.unit (s := s) off s.size inb).toLoadRect (hm.unread X) = X := by
  subst h
  funext j
  rw [View.readAt_apply, hm.read_unread]
  congr 1
  funext a
  apply Fin.ext
  show 0 + 1 * (j a).val = (j a).val
  simp

theorem read_codes (m : Memref sig .tc .vmem S88x256 .i8) (hm : m.IsWhole) (x2 : Vec Ideal S88x256 .i8) (g : Fin 11) :
    View.readAt (Elt Ideal) m.view (Rect.unit (s := S88x256) ![8 * g.val, 0] S8x256.size (inb_codes g)).toLoadRect (hm.unread x2) = codesOf x2 g := by
  funext j
  rw [View.readAt_apply, hm.read_unread]
  unfold codesOf
  congr 1
  funext a
  apply Fin.ext
  fin_cases a
  · show 8 * g.val + 1 * (j 0).val = 8 * g.val + (j 0).val
    simp
  · show 0 + 1 * (j 1).val = (j 1).val
    simp

theorem read_scale (m : Memref sig .tc .vmem S11x256 .f32) (hm : m.IsWhole) (x3 : Vec Ideal S11x256 .f32) (g : Fin 11) :
    View.readAt (Elt Ideal) m.view (Rect.unit (s := S11x256) ![g.val, 0] S1x256.size (inb_scale g)).toLoadRect (hm.unread x3) = scaleOf x3 g := by
  funext j
  rw [View.readAt_apply, hm.read_unread]
  unfold scaleOf
  congr 1
  funext a
  apply Fin.ext
  have h0 : (j 0).val < 1 := (j 0).isLt
  fin_cases a
  · show g.val + 1 * (j 0).val = g.val
    omega
  · show 0 + 1 * (j 1).val = (j 1).val
    simp

/-- The scaled table's stores, at a later point. -/
theorem stores_B (c : Dev nD) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg11 : Memref sig .tc .vmem S16x128 .bf16) (harg11 : arg11.IsWhole) (x2 : Vec Ideal S88x256 .i8) (x3 : Vec Ideal S11x256 .f32) (x4 : Vec Ideal S1x256 .f32) (xs2 : Vec Ideal S16x128 .bf16) :
    kernelRun0_B.sl.HS1_176 c arg3 harg3 arg4 harg4 arg5 harg5 arg11 harg11 x2 x3 x4 xs2 = amPieces
      (fun g => View.readAt (Elt Ideal) arg3.view (Rect.unit (s := S88x256) ![8 * g.val, 0] S8x256.size (inb_codes g)).toLoadRect (harg3.unread x2))
      (fun g => View.readAt (Elt Ideal) arg4.view (Rect.unit (s := S11x256) ![g.val, 0] S1x256.size (inb_scale g)).toLoadRect (harg4.unread x3))
      (View.readAt (Elt Ideal) arg5.view (Rect.unit (s := S1x256) ![0, 0] S1x256.size inb_S1x256_S1x256_0_0).toLoadRect (harg5.unread x4))
      (View.readAt (Elt Ideal) arg11.view (Rect.unit (s := S16x128) ![0, 0] S16x128.size inb_S16x128_S16x128_0_0).toLoadRect (harg11.unread xs2)) 176 := by
  sl_kernel_rfl

/-- The scaled table's stores, at the first point. -/
theorem stores_A (c : Dev nD) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg11 : Memref sig .tc .vmem S16x128 .bf16) (x2 : Vec Ideal S88x256 .i8) (x3 : Vec Ideal S11x256 .f32) (x4 : Vec Ideal S1x256 .f32) :
    kernelRun0_A.sl.HS1_176 c arg3 harg3 arg4 harg4 arg5 harg5 arg11 x2 x3 x4 = amPieces
      (fun g => View.readAt (Elt Ideal) arg3.view (Rect.unit (s := S88x256) ![8 * g.val, 0] S8x256.size (inb_codes g)).toLoadRect (harg3.unread x2))
      (fun g => View.readAt (Elt Ideal) arg4.view (Rect.unit (s := S11x256) ![g.val, 0] S1x256.size (inb_scale g)).toLoadRect (harg4.unread x3))
      (View.readAt (Elt Ideal) arg5.view (Rect.unit (s := S1x256) ![0, 0] S1x256.size inb_S1x256_S1x256_0_0).toLoadRect (harg5.unread x4))
      (arg11.view.readCov [⟨Rect.unit (s := S16x128) ![0, 0] S16x128.size inb_S16x128_S16x128_0_0, tab0⟩] (Rect.unit (s := S16x128) ![0, 0] S16x128.size inb_S16x128_S16x128_0_0).toLoadRect) 176 := by
  sl_kernel_rfl

theorem canon_stores_B (c : Dev nD) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg11 : Memref sig .tc .vmem S16x128 .bf16) (harg11 : arg11.IsWhole) (x2 : Vec Ideal S88x256 .i8) (x3 : Vec Ideal S11x256 .f32) (x4 : Vec Ideal S1x256 .f32) (xs2 : Vec Ideal S16x128 .bf16) :
    View.canon (kernelRun0_B.sl.HS1_176 c arg3 harg3 arg4 harg4 arg5 harg5 arg11 harg11 x2 x3 x4 xs2) = amOf (codesOf x2) (scaleOf x3) x4 xs2 := by
  rw [stores_B, canon_amPieces]
  rw [funext (read_codes arg3 harg3 x2), funext (read_scale arg4 harg4 x3)]
  rw [read_whole arg5 harg5 x4 _ (by decide), read_whole arg11 harg11 xs2 _ (by decide)]

theorem canon_stores_A (c : Dev nD) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg11 : Memref sig .tc .vmem S16x128 .bf16) (x2 : Vec Ideal S88x256 .i8) (x3 : Vec Ideal S11x256 .f32) (x4 : Vec Ideal S1x256 .f32) :
    View.canon (kernelRun0_A.sl.HS1_176 c arg3 harg3 arg4 harg4 arg5 harg5 arg11 x2 x3 x4) = amOf (codesOf x2) (scaleOf x3) x4 tab0 := by
  rw [stores_A, canon_amPieces]
  rw [funext (read_codes arg3 harg3 x2), funext (read_scale arg4 harg4 x3)]
  rw [read_whole arg5 harg5 x4 _ (by decide), View.readCov_unit_zero _ (by decide)]

/-- The output's one store, at a later point. -/
theorem out_B (c : Dev nD) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (hc0 : ¬cond0_0 i) (x0 : Vec Ideal S1024x5632 .bf16) (x1 : Vec Ideal S2816x256 .i8) (x2 : Vec Ideal S88x256 .i8) (x3 : Vec Ideal S11x256 .f32) (x4 : Vec Ideal S1x256 .f32) (x5 : Vec Ideal S5632x16 .bf16) (x6 : Vec Ideal S16x256 .bf16) (xs2 : Vec Ideal S16x128 .bf16) (xs3 : Vec Ideal S1024x16 .bf16) :
    (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs2 xs3).1 =
    [⟨Rect.unit (s := S1024x256) ![0, 0] S1024x256.size inb_S1024x256_S1024x256_0_0,
      k0_pay1 (k0_pay411 (View.readAt (Elt Ideal) arg1.view (Rect.unit (s := S1024x5632) ![0, 0] S1024x5632.size inb_S1024x5632_S1024x5632_0_0).toLoadRect (harg1.unread x0)))
        (arg9.view.readCov
          (pb_k0_t1 (F := Ideal) Variants.none c none i arg1 harg1 arg2 harg2 arg3 harg3 arg4 harg4 arg5 harg5 arg6 harg6 arg7 harg7 arg8 harg8 arg9 harg9 arg10 harg10 arg11 harg11 arg12 harg12
            (kernelRun0_B.sl.r_113 c arg3 harg3 arg4 harg4 arg5 harg5 x2 x3 x4)
            (kernelRun0_B.sl.r_122 c arg3 harg3 arg4 harg4 arg5 harg5 arg11 harg11 x2 x3 x4 xs2)
            (kernelRun0_B.sl.r_123 c arg3 harg3 arg4 harg4 arg5 harg5 arg11 harg11 x2 x3 x4 xs2) (harg2.unread x1)
            (arg10.view.writes (Elt Ideal) arg10.view.junk (kernelRun0_B.sl.HS1_176 c arg3 harg3 arg4 harg4 arg5 harg5 arg11 harg11 x2 x3 x4 xs2))
            (Scf.trips k0_t1_loop.lb k0_t1_loop.ub k0_t1_loop.st))
          (Rect.unit (s := S5632x256) ![0, 0] S5632x256.size inb_S5632x256_S5632x256_0_0).toLoadRect)
        (constant S1024x256 .f32 0x00000000#32)
        (View.readAt (Elt Ideal) arg12.view (Rect.unit (s := S1024x16) ![0, 0] S1024x16.size inb_S1024x16_S1024x16_0_0).toLoadRect (harg12.unread xs3))
        (View.readAt (Elt Ideal) arg7.view (Rect.unit (s := S16x256) ![0, 0] S16x256.size inb_S16x256_S16x256_0_0).toLoadRect (harg7.unread x6))⟩] := by
  sl_kernel_rfl

/-- The output's one store, at the first point. -/
theorem out_A (c : Dev nD) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (hc0 : cond0_0 i) (x0 : Vec Ideal S1024x5632 .bf16) (x1 : Vec Ideal S2816x256 .i8) (x2 : Vec Ideal S88x256 .i8) (x3 : Vec Ideal S11x256 .f32) (x4 : Vec Ideal S1x256 .f32) (x5 : Vec Ideal S5632x16 .bf16) (x6 : Vec Ideal S16x256 .bf16) :
    (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).1 =
    [⟨Rect.unit (s := S1024x256) ![0, 0] S1024x256.size inb_S1024x256_S1024x256_0_0,
      k0_pay1 (k0_pay411 (View.readAt (Elt Ideal) arg1.view (Rect.unit (s := S1024x5632) ![0, 0] S1024x5632.size inb_S1024x5632_S1024x5632_0_0).toLoadRect (harg1.unread x0)))
        (arg9.view.readCov
          (pb_k0_t1 (F := Ideal) Variants.none c none i arg1 harg1 arg2 harg2 arg3 harg3 arg4 harg4 arg5 harg5 arg6 harg6 arg7 harg7 arg8 harg8 arg9 harg9 arg10 harg10 arg11 harg11 arg12 harg12
            (kernelRun0_A.sl.r_113 c arg3 harg3 arg4 harg4 arg5 harg5 x2 x3 x4)
            (kernelRun0_A.sl.r_122 c arg3 harg3 arg4 harg4 arg5 harg5 arg11 x2 x3 x4)
            (kernelRun0_A.sl.r_123 c arg3 harg3 arg4 harg4 arg5 harg5 arg11 x2 x3 x4) (harg2.unread x1)
            (arg10.view.writes (Elt Ideal) arg10.view.junk (kernelRun0_A.sl.HS1_176 c arg3 harg3 arg4 harg4 arg5 harg5 arg11 x2 x3 x4))
            (Scf.trips k0_t1_loop.lb k0_t1_loop.ub k0_t1_loop.st))
          (Rect.unit (s := S5632x256) ![0, 0] S5632x256.size inb_S5632x256_S5632x256_0_0).toLoadRect)
        (constant S1024x256 .f32 0x00000000#32)
        (arg12.view.readCov [⟨Rect.unit (s := S1024x16) ![0, 0] S1024x16.size inb_S1024x16_S1024x16_0_0, k0_pay81 (k0_pay5 (View.readAt (Elt Ideal) arg1.view (Rect.unit (s := S1024x5632) ![0, 0] S1024x5632.size inb_S1024x5632_S1024x5632_0_0).toLoadRect (harg1.unread x0)) (View.readAt (Elt Ideal) arg6.view (Rect.unit (s := S5632x16) ![0, 0] S5632x16.size inb_S5632x16_S5632x16_0_0).toLoadRect (harg6.unread x5)))⟩]
          (Rect.unit (s := S1024x16) ![0, 0] S1024x16.size inb_S1024x16_S1024x16_0_0).toLoadRect)
        (View.readAt (Elt Ideal) arg7.view (Rect.unit (s := S16x256) ![0, 0] S16x256.size inb_S16x256_S16x256_0_0).toLoadRect (harg7.unread x6))⟩] := by
  sl_kernel_rfl

/-- A later point leaves its block in the output, as the carried table and product say. -/
theorem out_B_eq (c : Dev nD) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (hc0 : ¬cond0_0 i) (x0 : Vec Ideal S1024x5632 .bf16) (x1 : Vec Ideal S2816x256 .i8) (x2 : Vec Ideal S88x256 .i8) (x3 : Vec Ideal S11x256 .f32) (x4 : Vec Ideal S1x256 .f32) (x5 : Vec Ideal S5632x16 .bf16) (x6 : Vec Ideal S16x256 .bf16) (xs2 : Vec Ideal S16x128 .bf16) (xs3 : Vec Ideal S1024x16 .bf16) :
    out0_B_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 xs2 xs3 = blockOut x0 x1 x2 x3 x4 x6 xs2 xs3 := by
  unfold out0_B_7
  rw [View.read_writes_junk_eq_canon, out_B, View.canon_unit_zero (by decide), View.readCov_eq_canon',
    canon_loop Variants.none c none i arg1 harg1 arg2 harg2 arg3 harg3 arg4 harg4 arg5 harg5 arg6 harg6 arg7 harg7 arg8 harg8 arg9 harg9 arg10 harg10 arg11 harg11 arg12 harg12 _ _ _ _ _ (amOf (codesOf x2) (scaleOf x3) x4 xs2) x1
      (by rw [View.read_writes_junk_eq_canon, canon_stores_B]) (harg2.read_unread x1),
    read_whole arg1 harg1 x0 _ (by decide), read_whole arg12 harg12 xs3 _ (by decide), read_whole arg7 harg7 x6 _ (by decide)]
  unfold blockOut
  congr 1
  funext j
  congr 1
  funext a
  apply Fin.ext
  fin_cases a
  · show 0 + 1 * (j 0).val = (j 0).val
    simp
  · show 0 + 1 * (j 1).val = (j 1).val
    simp

/-- The first point leaves its block in the output, as the table and product it stores say. -/
theorem out_A_eq (c : Dev nD) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (hc0 : cond0_0 i) (x0 : Vec Ideal S1024x5632 .bf16) (x1 : Vec Ideal S2816x256 .i8) (x2 : Vec Ideal S88x256 .i8) (x3 : Vec Ideal S11x256 .f32) (x4 : Vec Ideal S1x256 .f32) (x5 : Vec Ideal S5632x16 .bf16) (x6 : Vec Ideal S16x256 .bf16) :
    out0_A_7 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = blockOut x0 x1 x2 x3 x4 x6 tab0 (h0 x0 x5) := by
  unfold out0_A_7
  rw [View.read_writes_junk_eq_canon, out_A, View.canon_unit_zero (by decide), View.readCov_eq_canon',
    canon_loop Variants.none c none i arg1 harg1 arg2 harg2 arg3 harg3 arg4 harg4 arg5 harg5 arg6 harg6 arg7 harg7 arg8 harg8 arg9 harg9 arg10 harg10 arg11 harg11 arg12 harg12 _ _ _ _ _ (amOf (codesOf x2) (scaleOf x3) x4 tab0) x1
      (by rw [View.read_writes_junk_eq_canon, canon_stores_A]) (harg2.read_unread x1),
    read_whole arg1 harg1 x0 _ (by decide), read_whole arg6 harg6 x5 _ (by decide), View.readCov_unit_zero _ (by decide), read_whole arg7 harg7 x6 _ (by decide)]
  unfold blockOut
  congr 1
  funext j
  congr 1
  funext a
  apply Fin.ext
  fin_cases a
  · show 0 + 1 * (j 0).val = (j 0).val
    simp
  · show 0 + 1 * (j 1).val = (j 1).val
    simp

/-- The first point leaves the table in its buffer. -/
theorem tab_A_eq (c : Dev nD) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (hc0 : cond0_0 i) (x0 : Vec Ideal S1024x5632 .bf16) (x1 : Vec Ideal S2816x256 .i8) (x2 : Vec Ideal S88x256 .i8) (x3 : Vec Ideal S11x256 .f32) (x4 : Vec Ideal S1x256 .f32) (x5 : Vec Ideal S5632x16 .bf16) (x6 : Vec Ideal S16x256 .bf16) :
    sout0_A_2 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = tab0 := by
  unfold sout0_A_2
  have e : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.1
      = [⟨Rect.unit (s := S16x128) ![0, 0] S16x128.size inb_S16x128_S16x128_0_0, tab0⟩] := by sl_kernel_rfl
  rw [View.read_writes_junk_eq_canon, e, View.canon_unit_zero (by decide)]

/-- The first point leaves `x @ lora_a` in its buffer. -/
theorem h_A_eq (c : Dev nD) (i : grid0.Coords) (arg1 : Memref sig .tc .vmem S1024x5632 .bf16) (harg1 : arg1.IsWhole) (arg2 : Memref sig .tc .vmem S2816x256 .i8) (harg2 : arg2.IsWhole) (arg3 : Memref sig .tc .vmem S88x256 .i8) (harg3 : arg3.IsWhole) (arg4 : Memref sig .tc .vmem S11x256 .f32) (harg4 : arg4.IsWhole) (arg5 : Memref sig .tc .vmem S1x256 .f32) (harg5 : arg5.IsWhole) (arg6 : Memref sig .tc .vmem S5632x16 .bf16) (harg6 : arg6.IsWhole) (arg7 : Memref sig .tc .vmem S16x256 .bf16) (harg7 : arg7.IsWhole) (arg8 : Memref sig .tc .vmem S1024x256 .bf16) (harg8 : arg8.IsWhole) (arg9 : Memref sig .tc .vmem S5632x256 .bf16) (harg9 : arg9.IsWhole) (arg10 : Memref sig .tc .vmem S88x8x2x256 .bf16) (harg10 : arg10.IsWhole) (arg11 : Memref sig .tc .vmem S16x128 .bf16) (harg11 : arg11.IsWhole) (arg12 : Memref sig .tc .vmem S1024x16 .bf16) (harg12 : arg12.IsWhole) (hc0 : cond0_0 i) (x0 : Vec Ideal S1024x5632 .bf16) (x1 : Vec Ideal S2816x256 .i8) (x2 : Vec Ideal S88x256 .i8) (x3 : Vec Ideal S11x256 .f32) (x4 : Vec Ideal S1x256 .f32) (x5 : Vec Ideal S5632x16 .bf16) (x6 : Vec Ideal S16x256 .bf16) :
    sout0_A_3 c i arg1 harg1 arg2 harg2 arg3 harg3 arg4 harg4 arg5 harg5 arg6 harg6 arg7 harg7 arg8 harg8 arg9 harg9 arg10 harg10 arg11 harg11 arg12 harg12 hc0 x0 x1 x2 x3 x4 x5 x6 = h0 x0 x5 := by
  unfold sout0_A_3
  have e : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6).2.2.1
      = [⟨Rect.unit (s := S1024x16) ![0, 0] S1024x16.size inb_S1024x16_S1024x16_0_0,
          k0_pay81 (k0_pay5 (View.readAt (Elt Ideal) arg1.view (Rect.unit (s := S1024x5632) ![0, 0] S1024x5632.size inb_S1024x5632_S1024x5632_0_0).toLoadRect (harg1.unread x0))
            (View.readAt (Elt Ideal) arg6.view (Rect.unit (s := S5632x16) ![0, 0] S5632x16.size inb_S5632x16_S5632x16_0_0).toLoadRect (harg6.unread x5)))⟩] := by sl_kernel_rfl
  rw [View.read_writes_junk_eq_canon, e, View.canon_unit_zero (by decide), read_whole arg1 harg1 x0 _ (by decide), read_whole arg6 harg6 x5 _ (by decide)]
  rfl

end Cert.Qlora
end
-- ==== Proof.Block.lean ====
/-
  Hand-written, untrusted. A POINT'S BLOCK AT AN INDEX: the product of `x` with the dequantized weights plus twice the low-rank
  product, in the point's own columns.
-/
module

public import proofs.«01_k».proof.Proof.Body

@[expose] public section

set_option maxRecDepth 16384

noncomputable section

namespace Cert.Qlora

open Idealize.ShloMosaic Idealize.SL.Sem Cert.KernelIdeal Cert.KernelIdeal.Gen

/-- The chain of selects the first point computes the table by, on a row's number. -/
def tabReal (r : BitVec 32) : EReal :=
  Scalar.select (IntOp.cmpi .eq r 15#32) (Ideal.ofBits .f32 0x3F800000#32)
    (Scalar.select (IntOp.cmpi .eq r 14#32) (Ideal.ofBits .f32 0x00000000#32)
    (Scalar.select (IntOp.cmpi .eq r 13#32) (Ideal.ofBits .f32 0x3F3913B3#32)
    (Scalar.select (IntOp.cmpi .eq r 12#32) (Ideal.ofBits .f32 0xBDBA7871#32)
    (Scalar.select (IntOp.cmpi .eq r 11#32) (Ideal.ofBits .f32 0x3F1007AB#32)
    (Scalar.select (IntOp.cmpi .eq r 10#32) (Ideal.ofBits .f32 0xBE3D353F#32)
    (Scalar.select (IntOp.cmpi .eq r 9#32) (Ideal.ofBits .f32 0x3EE1A4B8#32)
    (Scalar.select (IntOp.cmpi .eq r 8#32) (Ideal.ofBits .f32 0xBE91A24D#32)
    (Scalar.select (IntOp.cmpi .eq r 7#32) (Ideal.ofBits .f32 0x3EAD033A#32)
    (Scalar.select (IntOp.cmpi .eq r 6#32) (Ideal.ofBits .f32 0xBECA32A0#32)
    (Scalar.select (IntOp.cmpi .eq r 5#32) (Ideal.ofBits .f32 0x3E7C04DD#32)
    (Scalar.select (IntOp.cmpi .eq r 4#32) (Ideal.ofBits .f32 0xBF066B30#32)
    (Scalar.select (IntOp.cmpi .eq r 3#32) (Ideal.ofBits .f32 0x3E24CAE3#32)
    (Scalar.select (IntOp.cmpi .eq r 2#32) (Ideal.ofBits .f32 0xBF3239B1#32)
    (Scalar.select (IntOp.cmpi .eq r 1#32) (Ideal.ofBits .f32 0x3DA2FAFF#32)
    (Scalar.select (IntOp.cmpi .eq r 0#32) (Ideal.ofBits .f32 0xBF800000#32)
    (Ideal.ofBits .f32 0x00000000#32))))))))))))))))

/-- The same chain on the constants' bits. -/
def tabBits (r : BitVec 32) : BitVec 32 :=
  Scalar.select (IntOp.cmpi .eq r 15#32) 0x3F800000#32
    (Scalar.select (IntOp.cmpi .eq r 14#32) 0x00000000#32
    (Scalar.select (IntOp.cmpi .eq r 13#32) 0x3F3913B3#32
    (Scalar.select (IntOp.cmpi .eq r 12#32) 0xBDBA7871#32
    (Scalar.select (IntOp.cmpi .eq r 11#32) 0x3F1007AB#32
    (Scalar.select (IntOp.cmpi .eq r 10#32) 0xBE3D353F#32
    (Scalar.select (IntOp.cmpi .eq r 9#32) 0x3EE1A4B8#32
    (Scalar.select (IntOp.cmpi .eq r 8#32) 0xBE91A24D#32
    (Scalar.select (IntOp.cmpi .eq r 7#32) 0x3EAD033A#32
    (Scalar.select (IntOp.cmpi .eq r 6#32) 0xBECA32A0#32
    (Scalar.select (IntOp.cmpi .eq r 5#32) 0x3E7C04DD#32
    (Scalar.select (IntOp.cmpi .eq r 4#32) 0xBF066B30#32
    (Scalar.select (IntOp.cmpi .eq r 3#32) 0x3E24CAE3#32
    (Scalar.select (IntOp.cmpi .eq r 2#32) 0xBF3239B1#32
    (Scalar.select (IntOp.cmpi .eq r 1#32) 0x3DA2FAFF#32
    (Scalar.select (IntOp.cmpi .eq r 0#32) 0xBF800000#32
    (0x00000000#32))))))))))))))))

theorem select_bits (c : BitVec 1) (a b : BitVec 32) :
    Scalar.select c (Ideal.ofBits .f32 a) (Ideal.ofBits .f32 b) = Ideal.ofBits .f32 (Scalar.select c a b) := by
  unfold Scalar.select
  split <;> rfl

theorem tabReal_eq (r : BitVec 32) : tabReal r = Ideal.ofBits .f32 (tabBits r) := by
  simp only [tabReal, tabBits, select_bits]

theorem tabBits_eq : ∀ r : Fin 16, tabBits (BitVec.ofNat 32 r.val) = nf4Bits ⟨r.val / 2 + 8 * (r.val % 2), by omega⟩ := by
  decide +kernel

/-- The table as it is stored: row `2j + p` is entry `j + 8p` of the NF4 table, in every column. -/
theorem tab0_apply (r : Fin 16) (n : Fin 128) : tab0 (ix2 r n) = nf4 ⟨r.val / 2 + 8 * (r.val % 2), by omega⟩ := by
  have e : iota .tc S16x128 32 [0] iota_S16x128_d0_w32 (ix2 r n) = BitVec.ofNat 32 r.val := by pointwise []
  have f : tab0 (ix2 r n) = tabReal (iota .tc S16x128 32 [0] iota_S16x128_d0_w32 (ix2 r n)) := by
    unfold tab0 k0_pay4
    rw [shapeCast_self]
    rfl
  rw [f, e, tabReal_eq, tabBits_eq]
  rfl

/-- The first point's product. -/
theorem h0_apply (x0 : Vec Ideal S1024x5632 .bf16) (x5 : Vec Ideal S5632x16 .bf16) (i : Fin 1024) (r : Fin 16) :
    h0 x0 x5 (ix2 i r) = ∑ k : Fin 5632, x0 (ix2 i k) * x5 (ix2 k r) := by
  pointwise [h0, k0_pay81, k0_pay5]

/-- A byte read signed is the same integer after widening. -/
theorem sitofp_signExtend (b : BitVec 8) : FloatOps.sitofp (F := Ideal) .f32 (b.signExtend 32) = FloatOps.sitofp (F := Ideal) .f32 b := by
  show (((b.signExtend 32).toInt : ℝ) : EReal) = ((b.toInt : ℝ) : EReal)
  rw [BitVec.toInt_signExtend_of_le (by decide)]

/-- The decoded scale of a block's rows, in the point's own columns. -/
theorem scale_apply (x2 : Vec Ideal S88x256 .i8) (x3 : Vec Ideal S11x256 .f32) (x4 : Vec Ideal S1x256 .f32) (g : Fin 11) (s : Fin 8) (n : Fin 256) :
    k0_pay82 (codesOf x2 g) (scaleOf x3 g) x4 (ix2 s n)
      = FloatOps.sitofp (F := Ideal) .f32 ((x2 (ix2 ⟨8 * g.val + s.val, by omega⟩ n)).signExtend 32) * x3 (ix2 g n) + x4 (ix2 0 n) := by
  pointwise [k0_pay82, codesOf, scaleOf]
  congr 2
  exact (sitofp_signExtend _).symm

/-- The weight at row `k` in the point's own columns. -/
def blockWeight (x1 : Vec Ideal S2816x256 .i8) (x2 : Vec Ideal S88x256 .i8) (x3 : Vec Ideal S11x256 .f32) (x4 : Vec Ideal S1x256 .f32)
    (k : Fin 5632) (n : Fin 256) : EReal :=
  nf4 (code (x1 (ix2 ⟨k.val / 2, by omega⟩ n)) ⟨k.val % 2, Nat.mod_lt _ (by decide)⟩) *
    (FloatOps.sitofp (F := Ideal) .f32 ((x2 (ix2 ⟨k.val / 64, by omega⟩ n)).signExtend 32) * x3 (ix2 ⟨k.val / 64 / 8, by omega⟩ n) + x4 (ix2 0 n))

/-- The weight buffer after the loop holds it. -/
theorem wOf_apply (x1 : Vec Ideal S2816x256 .i8) (x2 : Vec Ideal S88x256 .i8) (x3 : Vec Ideal S11x256 .f32) (x4 : Vec Ideal S1x256 .f32)
    (k : Fin 5632) (n : Fin 256) :
    wOf (amOf (codesOf x2) (scaleOf x3) x4 tab0) x1 (ix2 k n) = blockWeight x1 x2 x3 x4 k n := by
  have hk := k.isLt
  unfold wOf amOf blockWeight
  show tab0 (ix2 ⟨2 * ((code (x1 (ix2 ⟨k.val / 2, _⟩ n)) ⟨k.val % 2, _⟩).val % 8) + (code (x1 (ix2 ⟨k.val / 2, _⟩ n)) ⟨k.val % 2, _⟩).val / 8, _⟩ ⟨n.val % 128, _⟩)
    * k0_pay82 (codesOf x2 ⟨k.val / 64 / 8 % 11, _⟩) (scaleOf x3 ⟨k.val / 64 / 8 % 11, _⟩) x4 (ix2 ⟨k.val / 64 % 8, _⟩ n) = _
  rw [tab0_apply, scale_apply]
  have a1 : k.val / 64 / 8 % 11 = k.val / 64 / 8 := by omega
  have a2 : 8 * (k.val / 64 / 8) + k.val / 64 % 8 = k.val / 64 := by omega
  simp only [a1, a2]
  congr 2
  have key : ∀ t : Fin 16, (2 * (t.val % 8) + t.val / 8) / 2 + 8 * ((2 * (t.val % 8) + t.val / 8) % 2) = t.val := by decide
  exact Fin.ext (key _)

/-- The block at an index. -/
theorem blockOut_apply (x0 : Vec Ideal S1024x5632 .bf16) (x1 : Vec Ideal S2816x256 .i8) (x2 : Vec Ideal S88x256 .i8) (x3 : Vec Ideal S11x256 .f32)
    (x4 : Vec Ideal S1x256 .f32) (x5 : Vec Ideal S5632x16 .bf16) (x6 : Vec Ideal S16x256 .bf16) (i : Fin 1024) (n : Fin 256) :
    blockOut x0 x1 x2 x3 x4 x6 tab0 (h0 x0 x5) (ix2 i n)
      = layer x0 (fun k => blockWeight x1 x2 x3 x4 k n) x5 (fun r => x6 (ix2 r n)) i := by
  pointwise [blockOut, k0_pay1, k0_pay411, layer, wOf_apply, h0_apply]

end Cert.Qlora
end
-- ==== Proof.Reference.lean ====
/-
  Hand-written, untrusted. THE REFERENCE AT AN INDEX. The reference program's result (`Value.res_main_v74`, one composed term of
  the host's operations) is cut into named steps — the four-bit codes' bits, the tree of selects over the sixteen table
  constants, the decoded block scales, the dequantized weight — and each step is read at an index, down to the plain
  mathematics of Proof/Spec.lean.
-/
module

public import proofs.«01_k».proof.Proof.Gen.ReferenceIdeal.Run
public import proofs.«01_k».proof.Proof.Spec
public import Idealize.ShloMosaic.Lib.Pointwise

@[expose] public section

set_option maxRecDepth 16384

noncomputable section

namespace Cert.Qlora

open Idealize.ShloMosaic Idealize.SL.Sem Cert.ReferenceIdeal Cert.ReferenceIdeal.Gen

/-- Bit `k` of every weight's four-bit code, as the reference computes it: packed rows repeated, shifted by `4·(row mod 2)`, masked. -/
def refBit (wp : IVec S2816x1280 8) (k : BitVec 32) : IVec S5632x1280 1 :=
  cmpi .eq (andi (Host.shrsi (andi (Host.shrsi (shapeCast _ (broadcastInDim S2816x2x1280 ![0, 2] bcast_S2816x1280_S2816x2x1280_0_2 (extui 32 wp natLt_8_32)) shapeCasts_S2816x2x1280_S5632x1280) (broadcastInDim S5632x1280 ![0, 1] bcast_S5632x1_S5632x1280_0_1 (muli (andi (iotaInDim S5632x1 32 0) (broadcastInDim S5632x1 ![] bcast_S_S5632x1 (constantI S_ 32 1#32))) (broadcastInDim S5632x1 ![] bcast_S_S5632x1 (constantI S_ 32 4#32))))) (broadcastInDim S5632x1280 ![] bcast_S_S5632x1280 (constantI S_ 32 15#32))) (broadcastInDim S5632x1280 ![] bcast_S_S5632x1280 (constantI S_ 32 k))) (broadcastInDim S5632x1280 ![] bcast_S_S5632x1280 (constantI S_ 32 1#32))) (broadcastInDim S5632x1280 ![] bcast_S_S5632x1280 (constantI S_ 32 1#32))

/-- One table constant at every weight. -/
def refConst (v : BitVec 32) : FVec Ideal S5632x1280 .f32 :=
  broadcastInDim S5632x1280 ![] bcast_S_S5632x1280 (constant S_ .f32 v)

/-- The reference's table lookup: four levels of selects on the code's bits. -/
def refTree (wp : IVec S2816x1280 8) : FVec Ideal S5632x1280 .f32 :=
  (select (refBit wp 3#32) (select (refBit wp 2#32) (select (refBit wp 1#32) (select (refBit wp 0#32) (refConst 0x3F800000#32) (refConst 0x3F3913B3#32)) (select (refBit wp 0#32) (refConst 0x3F1007AB#32) (refConst 0x3EE1A4B8#32))) (select (refBit wp 1#32) (select (refBit wp 0#32) (refConst 0x3EAD033A#32) (refConst 0x3E7C04DD#32)) (select (refBit wp 0#32) (refConst 0x3E24CAE3#32) (refConst 0x3DA2FAFF#32)))) (select (refBit wp 2#32) (select (refBit wp 1#32) (select (refBit wp 0#32) (refConst 0x00000000#32) (refConst 0xBDBA7871#32)) (select (refBit wp 0#32) (refConst 0xBE3D353F#32) (refConst 0xBE91A24D#32))) (select (refBit wp 1#32) (select (refBit wp 0#32) (refConst 0xBECA32A0#32) (refConst 0xBF066B30#32)) (select (refBit wp 0#32) (refConst 0xBF3239B1#32) (refConst 0xBF800000#32)))))

/-- The reference's decoded block scales. -/
def refAbsmax (ac : IVec S88x1280 8) (sc : FVec Ideal S11x1280 .f32) (ao : FVec Ideal S1280 .f32) : FVec Ideal S88x1280 .bf16 :=
  (truncf .bf16 (addf (mulf (sitofp .f32 (extsi 32 ac natLt_8_32)) (shapeCast _ (broadcastInDim S11x8x1280 ![0, 2] bcast_S11x1280_S11x8x1280_0_2 sc) shapeCasts_S11x8x1280_S88x1280)) (broadcastInDim S88x1280 ![0, 1] bcast_S1x1280_S88x1280_0_1 (broadcastInDim S1x1280 ![1] bcast_S1280_S1x1280_1 ao))) bitsLt_bf16_f32)

/-- The reference's dequantized weight. -/
def refW (wp : IVec S2816x1280 8) (ac : IVec S88x1280 8) (sc : FVec Ideal S11x1280 .f32) (ao : FVec Ideal S1280 .f32) :
    FVec Ideal S5632x1280 .bf16 :=
  (shapeCast _ (mulf (shapeCast _ (truncf .bf16 (refTree wp) bitsLt_bf16_f32) shapeCasts_S5632x1280_S88x64x1280) (broadcastInDim S88x64x1280 ![0, 1, 2] bcast_S88x1x1280_S88x64x1280_0_1_2 (broadcastInDim S88x1x1280 ![0, 2] bcast_S88x1280_S88x1x1280_0_2 (refAbsmax ac sc ao)))) shapeCasts_S88x64x1280_S5632x1280)

/-- The reference's result. -/
def refY (x : FVec Ideal S4x256x5632 .bf16) (wp : IVec S2816x1280 8) (ac : IVec S88x1280 8) (sc : FVec Ideal S11x1280 .f32)
    (ao : FVec Ideal S1280 .f32) (la : FVec Ideal S5632x16 .bf16) (lb : FVec Ideal S16x1280 .bf16) : FVec Ideal S1024x1280 .bf16 :=
  truncf .bf16 (addf (Host.dotGeneral dot_S1024x5632_S5632x1280_S1024x1280_1_0_0_1_n_n none (shapeCast _ x shapeCasts_S4x256x5632_S1024x5632) (refW wp ac sc ao)) (mulf (broadcastInDim S1024x1280 ![] bcast_S_S1024x1280 (constant S_ .f32 0x40000000#32)) (Host.dotGeneral dot_S1024x16_S16x1280_S1024x1280_1_0_0_1_n_n none (truncf .bf16 (Host.dotGeneral dot_S1024x5632_S5632x16_S1024x16_1_0_0_1_n_n none (shapeCast _ x shapeCasts_S4x256x5632_S1024x5632) la) bitsLt_bf16_f32) lb))) bitsLt_bf16_f32

/-- The generated term of the reference's result is `refY` of the arguments. -/
theorem res_eq (m : (ℓ : Loc nD τ sig) → Buf (Elt Ideal) ℓ) (c : Dev nD) :
    Cert.ReferenceIdeal.Value.res_main_v74 m c = refY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := rfl

/-- Bit `k` of the code that the packed byte `w` holds at parity `p`, as the reference's integer operations compute it. -/
def hostBit (w : BitVec 8) (p : BitVec 32) (k : BitVec 32) : BitVec 1 :=
  IntOp.cmpi .eq (IntOp.andi (IntOp.shrsi .host (IntOp.andi (IntOp.shrsi .host (BitVec.setWidth 32 w) (IntOp.muli p 4#32)) 15#32) k) 1#32) 1#32

/-- The bit of the row and column at hand is `hostBit` of the row's packed byte at the row's parity. -/
theorem refBit_apply (wp : IVec S2816x1280 8) (k : BitVec 32) (r : Fin 5632) (n : Fin 1280) :
    refBit wp k (ix2 r n) = hostBit (wp (ix2 ⟨r.val / 2, by omega⟩ n)) (BitVec.ofNat 32 (r.val % 2)) k := by
  have e : IntOp.andi (BitVec.ofNat 32 r.val) 1#32 = BitVec.ofNat 32 (r.val % 2) := by
    apply BitVec.eq_of_toNat_eq
    show (BitVec.ofNat 32 r.val &&& 1#32).toNat = _
    rw [BitVec.toNat_and, BitVec.toNat_ofNat, BitVec.toNat_ofNat, BitVec.toNat_ofNat]
    rw [show (1 % 2 ^ 32 : ℕ) = 1 from rfl, Nat.and_one_is_mod]
    omega
  pointwise [refBit, hostBit]
  rw [e]

/-- The tree of selects over the table's words, on the four bits of a code. -/
def treeBits (b0 b1 b2 b3 : BitVec 1) : BitVec 32 :=
  Scalar.select b3
    (Scalar.select b2 (Scalar.select b1 (Scalar.select b0 0x3F800000#32 0x3F3913B3#32) (Scalar.select b0 0x3F1007AB#32 0x3EE1A4B8#32))
      (Scalar.select b1 (Scalar.select b0 0x3EAD033A#32 0x3E7C04DD#32) (Scalar.select b0 0x3E24CAE3#32 0x3DA2FAFF#32)))
    (Scalar.select b2 (Scalar.select b1 (Scalar.select b0 0x00000000#32 0xBDBA7871#32) (Scalar.select b0 0xBE3D353F#32 0xBE91A24D#32))
      (Scalar.select b1 (Scalar.select b0 0xBECA32A0#32 0xBF066B30#32) (Scalar.select b0 0xBF3239B1#32 0xBF800000#32)))

/-- A select between two decoded words is the decoded select. -/
theorem select_ofBits (c : BitVec 1) (a b : BitVec 32) :
    Scalar.select c (Ideal.ofBits .f32 a) (Ideal.ofBits .f32 b) = Ideal.ofBits .f32 (Scalar.select c a b) := by
  rcases BitVec.eq_zero_or_eq_one c with rfl | rfl <;> rfl

/-- The same tree over the table's extended reals. -/
def treeReal (b0 b1 b2 b3 : BitVec 1) : EReal :=
  Scalar.select b3
    (Scalar.select b2 (Scalar.select b1 (Scalar.select b0 (Ideal.ofBits .f32 0x3F800000#32) (Ideal.ofBits .f32 0x3F3913B3#32)) (Scalar.select b0 (Ideal.ofBits .f32 0x3F1007AB#32) (Ideal.ofBits .f32 0x3EE1A4B8#32)))
      (Scalar.select b1 (Scalar.select b0 (Ideal.ofBits .f32 0x3EAD033A#32) (Ideal.ofBits .f32 0x3E7C04DD#32)) (Scalar.select b0 (Ideal.ofBits .f32 0x3E24CAE3#32) (Ideal.ofBits .f32 0x3DA2FAFF#32))))
    (Scalar.select b2 (Scalar.select b1 (Scalar.select b0 (Ideal.ofBits .f32 0x00000000#32) (Ideal.ofBits .f32 0xBDBA7871#32)) (Scalar.select b0 (Ideal.ofBits .f32 0xBE3D353F#32) (Ideal.ofBits .f32 0xBE91A24D#32)))
      (Scalar.select b1 (Scalar.select b0 (Ideal.ofBits .f32 0xBECA32A0#32) (Ideal.ofBits .f32 0xBF066B30#32)) (Scalar.select b0 (Ideal.ofBits .f32 0xBF3239B1#32) (Ideal.ofBits .f32 0xBF800000#32))))

/-- The tree over the extended reals decodes the tree over the words. -/
theorem treeReal_eq (b0 b1 b2 b3 : BitVec 1) : treeReal b0 b1 b2 b3 = Ideal.ofBits .f32 (treeBits b0 b1 b2 b3) := by
  simp only [treeReal, treeBits, select_ofBits]

/-- On the bits of a code the tree is the table: decided over the 256 bytes and the two parities. -/
theorem treeBits_eq : ∀ (w : BitVec 8) (p : Fin 2),
    treeBits (hostBit w (BitVec.ofNat 32 p.val) 0#32) (hostBit w (BitVec.ofNat 32 p.val) 1#32) (hostBit w (BitVec.ofNat 32 p.val) 2#32)
      (hostBit w (BitVec.ofNat 32 p.val) 3#32) = nf4Bits (code w p) := by
  decide +kernel

/-- The reference's lookup is the table at the row's code. -/
theorem refTree_apply (wp : IVec S2816x1280 8) (r : Fin 5632) (n : Fin 1280) :
    refTree wp (ix2 r n) = nf4 (code (wp (ix2 ⟨r.val / 2, by omega⟩ n)) ⟨r.val % 2, Nat.mod_lt _ (by decide)⟩) := by
  have e : refTree wp (ix2 r n)
      = treeReal (refBit wp 0#32 (ix2 r n)) (refBit wp 1#32 (ix2 r n)) (refBit wp 2#32 (ix2 r n)) (refBit wp 3#32 (ix2 r n)) := rfl
  rw [e, treeReal_eq, refBit_apply, refBit_apply, refBit_apply, refBit_apply]
  exact congrArg (Ideal.ofBits .f32) (treeBits_eq _ ⟨r.val % 2, Nat.mod_lt _ (by decide)⟩)

/-- The reference's block scale at an index. -/
theorem refAbsmax_apply (ac : IVec S88x1280 8) (sc : FVec Ideal S11x1280 .f32) (ao : FVec Ideal S1280 .f32) (b : Fin 88) (n : Fin 1280) :
    refAbsmax ac sc ao (ix2 b n) = absmax ac sc ao b n := by
  pointwise [refAbsmax, absmax]

/-- The reference's weight at an index. -/
theorem refW_apply (wp : IVec S2816x1280 8) (ac : IVec S88x1280 8) (sc : FVec Ideal S11x1280 .f32) (ao : FVec Ideal S1280 .f32)
    (r : Fin 5632) (n : Fin 1280) : refW wp ac sc ao (ix2 r n) = weight wp ac sc ao r n := by
  have e : refW wp ac sc ao (ix2 r n) = refTree wp (ix2 r n) * refAbsmax ac sc ao (ix2 ⟨r.val / 64, by omega⟩ n) := by
    pointwise [refW]
  rw [e, refTree_apply, refAbsmax_apply, weight]

/-- The reference's result at an index: the layer's formula, over the token rows merged. -/
theorem refY_apply (x : FVec Ideal S4x256x5632 .bf16) (wp : IVec S2816x1280 8) (ac : IVec S88x1280 8) (sc : FVec Ideal S11x1280 .f32)
    (ao : FVec Ideal S1280 .f32) (la : FVec Ideal S5632x16 .bf16) (lb : FVec Ideal S16x1280 .bf16) (i : Fin 1024) (j : Fin 1280) :
    refY x wp ac sc ao la lb (ix2 i j) = layer (shapeCast S1024x5632 x shapeCasts_S4x256x5632_S1024x5632) (fun k => weight wp ac sc ao k j) la (fun r => lb (ix2 r j)) i := by
  pointwise [refY, layer, refW_apply]

end Cert.Qlora

end
-- ==== Proof.Array.lean ====
/-
  Hand-written, untrusted. THE WHOLE ARRAY: what the kernel's run leaves in its result, read at an index, is what the reference
  computes of the same arguments.
-/
module

public import proofs.«01_k».proof.Proof.Block
public import proofs.«01_k».proof.Proof.Reference
public import proofs.«01_k».proof.Proof.Gen.KernelIdeal.Value
public import Idealize.ShloMosaic.Lib.Pipeline.ValueKit

@[expose] public section

set_option maxRecDepth 16384

noncomputable section

namespace Cert.Qlora

open Idealize.ShloMosaic Idealize.SL.Sem Cert.KernelIdeal Cert.KernelIdeal.Gen

variable (m : (ℓ : Loc nD τ sig) → Buf (Elt Ideal) ℓ)

/-- Where each input's block lies: the two whole operands at the origin, the others in the point's own columns. -/
theorem idx_facts : ∀ t : Fin cfg0.N, win0_0.index t = ![0, 0] ∧ win0_1.index t = ![0, t.val] ∧ win0_2.index t = ![0, t.val]
    ∧ win0_3.index t = ![0, t.val] ∧ win0_4.index t = ![0, t.val] ∧ win0_5.index t = ![0, 0] ∧ win0_6.index t = ![0, t.val] := by
  decide +kernel

/-- The activations' block at any point is the flattened argument. -/
theorem block_x (c : Dev nD) (t : Fin cfg0.N) :
    (iblk m c 0 t : Vec Ideal S1024x5632 .bf16)
      = shapeCast S1024x5632 (m ((c.tc : Thread nD τ).loc main_arg0)) shapeCasts_S4x256x5632_S1024x5632 := by
  funext y
  rw [eq_ix2 y]
  blk_ext [iblk, idx_facts t]

/-- The first low-rank factor's block at any point is the argument. -/
theorem block_a (c : Dev nD) (t : Fin cfg0.N) :
    (iblk m c 5 t : Vec Ideal S5632x16 .bf16) = m ((c.tc : Thread nD τ).loc main_arg5) := by
  funext y
  rw [eq_ix2 y]
  blk_ext [iblk, V, idx_facts t]

/-- The packed codes' block at a point is the argument in the point's columns. -/
theorem block_w (c : Dev nD) (t : Fin cfg0.N) (k : Fin 2816) (n : Fin 256) (j : Fin 1280) (h : j.val = 256 * t.val + n.val) :
    (iblk m c 1 t : Vec Ideal S2816x256 .i8) (ix2 k n) = m ((c.tc : Thread nD τ).loc main_arg1) (ix2 k j) := by
  blk_ext [iblk, V, idx_facts t]

/-- The quantized scales' block at a point is the argument in the point's columns. -/
theorem block_ac (c : Dev nD) (t : Fin cfg0.N) (k : Fin 88) (n : Fin 256) (j : Fin 1280) (h : j.val = 256 * t.val + n.val) :
    (iblk m c 2 t : Vec Ideal S88x256 .i8) (ix2 k n) = m ((c.tc : Thread nD τ).loc main_arg2) (ix2 k j) := by
  blk_ext [iblk, V, idx_facts t]

/-- The block of the scales' own scales at a point is the argument in the point's columns. -/
theorem block_sc (c : Dev nD) (t : Fin cfg0.N) (k : Fin 11) (n : Fin 256) (j : Fin 1280) (h : j.val = 256 * t.val + n.val) :
    (iblk m c 3 t : Vec Ideal S11x256 .f32) (ix2 k n) = m ((c.tc : Thread nD τ).loc main_arg3) (ix2 k j) := by
  blk_ext [iblk, V, idx_facts t]

/-- The second low-rank factor's block at a point is the argument in the point's columns. -/
theorem block_b (c : Dev nD) (t : Fin cfg0.N) (k : Fin 16) (n : Fin 256) (j : Fin 1280) (h : j.val = 256 * t.val + n.val) :
    (iblk m c 6 t : Vec Ideal S16x256 .bf16) (ix2 k n) = m ((c.tc : Thread nD τ).loc main_arg6) (ix2 k j) := by
  blk_ext [iblk, V, idx_facts t]

/-- The offsets' block at a point is the argument in the point's columns. -/
theorem block_ao (c : Dev nD) (t : Fin cfg0.N) (n : Fin 256) (j : Fin 1280) (h : j.val = 256 * t.val + n.val) :
    (iblk m c 4 t : Vec Ideal S1x256 .f32) (ix2 0 n) = m ((c.tc : Thread nD τ).loc main_arg4) (ix1 j) := by
  have e : ((win0_4.blk t).view.emb (ix2 (0 : Fin 1) n) : S1x1280.Idx) = ix2 0 j := by
    blk_ext [idx_facts t]
  unfold iblk
  rw [View.read_apply]
  entry_read
  refine (congrArg (shapeCast S1x1280 (m ((c.tc : Thread nD τ).loc main_arg4)) shapeCasts_S1280_S1x1280) e).trans ?_
  pointwise []

/-- A point's weights are the arguments' weights in the point's columns. -/
theorem blockWeight_eq (c : Dev nD) (t : Fin cfg0.N) (k : Fin 5632) (n : Fin 256) (j : Fin 1280) (h : j.val = 256 * t.val + n.val) :
    blockWeight (iblk m c 1 t) (iblk m c 2 t) (iblk m c 3 t) (iblk m c 4 t) k n
      = weight (m ((c.tc : Thread nD τ).loc main_arg1)) (m ((c.tc : Thread nD τ).loc main_arg2)) (m ((c.tc : Thread nD τ).loc main_arg3))
          (m ((c.tc : Thread nD τ).loc main_arg4)) k j := by
  unfold blockWeight weight absmax
  rw [block_w m c t _ n j h, block_ac m c t _ n j h, block_sc m c t _ n j h, block_ao m c t n j h]

/-- Every point finds, or makes, the same table and the same product with the first low-rank factor. -/
theorem carried (c : Dev nD) (x0 : Vec Ideal S1024x5632 .bf16) (x5 : Vec Ideal S5632x16 .bf16) (e0 : ∀ t, iblk m c 0 t = x0)
    (e5 : ∀ t, iblk m c 5 t = x5) : ∀ (n : ℕ) (hn : n < cfg0.N), (outsAt0 m c n hn).2 = (tab0, h0 x0 x5)
  | 0, hn => by
    rw [outsAt0_A m c ⟨0, hn⟩ (Nat.zero_mod _)]
    dsimp only
    rw [tab_A_eq, h_A_eq, e0, e5]
  | n + 1, hn => by
    have hN := lt_of_lt_of_eq hn N_0
    rw [outsAt0_B m c ⟨n + 1, hn⟩ (by dsimp only; omega)]
    exact carried c x0 x5 e0 e5 n (Nat.lt_of_succ_lt hn)

/-- Every point leaves its own block in the output. -/
theorem left (c : Dev nD) (x0 : Vec Ideal S1024x5632 .bf16) (x5 : Vec Ideal S5632x16 .bf16) (e0 : ∀ t, iblk m c 0 t = x0)
    (e5 : ∀ t, iblk m c 5 t = x5) (t : Fin cfg0.N) :
    (outsAt0 m c t.val t.isLt).1
      = blockOut x0 (iblk m c 1 t) (iblk m c 2 t) (iblk m c 3 t) (iblk m c 4 t) (iblk m c 6 t) tab0 (h0 x0 x5) := by
  by_cases h : t.val % 5 = 0
  · rw [outsAt0_A m c t h]
    dsimp only
    rw [out_A_eq, e0, e5]
  · rw [outsAt0_B m c t h]
    dsimp only
    rw [out_B_eq, carried m c x0 x5 e0 e5, e0]

/-- The kernel's result array is the reference's result of the same arguments. -/
theorem result_eq (c : Dev nD) :
    Cert.KernelIdeal.Value.G7 m c
      = refY (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) := by
  funext y
  obtain ⟨i, j, rfl⟩ : ∃ (i : Fin 1024) (j : Fin 1280), y = ix2 i j := ⟨y 0, y 1, eq_ix2 y⟩
  have hp : Cert.KernelIdeal.Value.pt7Of (ix2 i j) = j.val / 256 := by
    show 5 * (i.val / 1024 - 0) + 1 * (j.val / 256 - 0) = j.val / 256
    omega
  have hl : Cert.KernelIdeal.Value.loc7Of (ix2 i j) = ix2 i (⟨j.val % 256, by omega⟩ : Fin 256) := by
    funext a
    apply Fin.ext
    fin_cases a
    · show i.val % 1024 = i.val
      omega
    · rfl
  have hN : Cert.KernelIdeal.Value.pt7Of (ix2 i j) < cfg0.N := by
    rw [hp, show cfg0.N = 5 from N_0]
    omega
  rw [refY_apply]
  unfold Cert.KernelIdeal.Value.G7
  rw [dif_pos hN, ← Cert.KernelIdeal.Value.outsAt0_sweep m c _ hN, hl]
  have hj : j.val = 256 * Cert.KernelIdeal.Value.pt7Of (ix2 i j) + (⟨j.val % 256, by omega⟩ : Fin 256).val := by
    rw [hp]
    show j.val = 256 * (j.val / 256) + j.val % 256
    omega
  rw [left m c _ _ (block_x m c) (block_a m c) ⟨_, hN⟩, blockOut_apply]
  congr 1
  · funext k
    exact blockWeight_eq m c ⟨_, hN⟩ k _ j hj
  · funext r
    exact block_b m c ⟨_, hN⟩ r _ j hj

end Cert.Qlora
end
-- ==== Proof.lean ====
/-
  Hand-written, untrusted. The proof of `Cert.Claim`: the three programs run and end with their arguments unchanged (the generated
  frames and the reference's generated run), each rewrite of the ideal pass is its rule's lemma, and the kernel's result is the
  reference's result of the same arguments (`Cert.Qlora.result_eq`).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal.Run
public import proofs.«01_k».proof.Proof.Array
public import Idealize.ShloMosaic.Adequacy
public import Idealize.ShloMosaic.Init
public import Idealize.ShloMosaic.PureOps.IdealRules
public import Idealize.ShloMosaic.Lib.Bf16Pair
public import Idealize.ShloMosaic.Lib.Bf16PairInverse

@[expose] public section

noncomputable section

namespace Cert.Proof

open Idealize.ShloMosaic Idealize.SL.Sem

/-- The reference ends with its arguments unchanged; it declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m g)

/-- Each place where the ideal pass rewrites the kernel is an instance of its rule. -/
theorem preserves : Cert.preserves_Kernel_KernelIdeal :=
  ⟨IdealRules.bf16_pair.bufferStatement _ _, IdealRules.truncf_extf.statement _ .f32 .bf16, IdealRules.bf16_pair.statement _ _,
    IdealRules.bf16_pair.statement _ _, IdealRules.bf16_pair.packStatement _⟩

/-- Over the extended reals, the kernel's result is the reference's result of the same arguments. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Value.G7 m c, ?_, ?_⟩
  · exact Cert.KernelIdeal.Value.run m g
  · refine (θ_run Cert.ReferenceIdeal.defs _ _).mono (fun r h c => ?_) (Cert.ReferenceIdeal.Value.run (F := Ideal) m' g')
    refine ⟨(h c).1.trans ?_, (h c).2⟩
    obtain ⟨e0, e1, e2, e3, e4, e5, e6⟩ := hargs c
    rw [Cert.Qlora.res_eq, e0, e1, e2, e3, e4, e5, e6]
    exact (Cert.Qlora.result_eq m c).symm

theorem claim : Cert.Claim :=
  ⟨Cert.Kernel.Gen.facts, Cert.KernelIdeal.Gen.facts, Cert.ReferenceIdeal.Gen.facts, fun m g _ => Cert.Kernel.Gen.frame m g,
    fun m g _ => Cert.KernelIdeal.Gen.frame m g, frame_reference, preserves, algebraic⟩

end Cert.Proof

end
